-- ==== Defs.lean ====
def Pre_Kernel [hPre_groups_split_rows : Cert.Pre_groups_split_rows.Facts] (m : (ℓ : Loc Cert.Kernel.nD Cert.Kernel.τ Cert.Kernel.sig) → Buf (Elt Bits) ℓ) : Prop :=
  ∀ c : Dev Cert.Kernel.nD,
    (Cert.Pre_groups_split_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_groups_split_rows : Cert.Pre_groups_split_rows.Facts] (m : (ℓ : Loc Cert.KernelIdeal.nD Cert.KernelIdeal.τ Cert.KernelIdeal.sig) → Buf (Elt Ideal) ℓ) : Prop :=
  ∀ c : Dev Cert.KernelIdeal.nD,
    (Cert.Pre_groups_split_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_finite_dy_and_split [hPre_finite_dy_and_split : Cert.Pre_finite_dy_and_split.Facts] (m : (ℓ : Loc Cert.KernelIdeal.nD Cert.KernelIdeal.τ Cert.KernelIdeal.sig) → Buf (Elt Ideal) ℓ) : Prop :=
  ∀ c : Dev Cert.KernelIdeal.nD,
    (Cert.Pre_finite_dy_and_split.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_dy_and_split [hPre_finite_dy_and_split : Cert.Pre_finite_dy_and_split.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_dy_and_split.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_groups_split_rows : Cert.Pre_groups_split_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_split_rows : Cert.Pre_groups_split_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_dy_and_split [hKernelIdeal : Cert.KernelIdeal.Facts] [hPre_finite_dy_and_split : Cert.Pre_finite_dy_and_split.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_dy_and_split m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_dy_and_split [hReferenceIdeal : Cert.ReferenceIdeal.Facts] [hPre_finite_dy_and_split : Cert.Pre_finite_dy_and_split.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_dy_and_split m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_dy_and_split [hKernelIdeal : Cert.KernelIdeal.Facts] [hReferenceIdeal : Cert.ReferenceIdeal.Facts] [hPre_finite_dy_and_split : Cert.Pre_finite_dy_and_split.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_dy_and_split m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_split_rows : Cert.Pre_groups_split_rows.Facts) (hPre_finite_dy_and_split : Cert.Pre_finite_dy_and_split.Facts),
    quiescent_Kernel (hKernel := hKernel) (hPre_groups_split_rows := hPre_groups_split_rows)
    ∧ quiescent_KernelIdeal (hKernelIdeal := hKernelIdeal) (hPre_groups_split_rows := hPre_groups_split_rows)
    ∧ quiescent_KernelIdeal_pre_finite_dy_and_split (hKernelIdeal := hKernelIdeal) (hPre_finite_dy_and_split := hPre_finite_dy_and_split)
    ∧ quiescent_ReferenceIdeal (hReferenceIdeal := hReferenceIdeal)
    ∧ quiescent_ReferenceIdeal_pre_finite_dy_and_split (hReferenceIdeal := hReferenceIdeal) (hPre_finite_dy_and_split := hPre_finite_dy_and_split)
    ∧ preserves_Kernel_KernelIdeal
    ∧ algebraic_KernelIdeal_ReferenceIdeal_pre_finite_dy_and_split (hKernelIdeal := hKernelIdeal) (hReferenceIdeal := hReferenceIdeal) (hPre_finite_dy_and_split := hPre_finite_dy_and_split)
-- ==== Pre_finite_dy_and_split.lean ====
abbrev S4096x7168 : Shape := ⟨2, ![4096, 7168]⟩
abbrev S13 : Shape := ⟨1, ![13]⟩
abbrev S13x2048x7168 : Shape := ⟨3, ![13, 2048, 7168]⟩
abbrev S13x2048 : Shape := ⟨2, ![13, 2048]⟩
abbrev S_ : Shape := ⟨0, ![]⟩

class Facts : Prop where
  bcast_S_S13 : S_.BroadcastsInDim S13 (![] : Fin 0 → Fin S13.rank)
  reducesTo_S13_S_d0 : S13.ReducesTo [0] S_
  h_S_ : 0 < S_.numel
  bcast_S_S4096x7168 : S_.BroadcastsInDim S4096x7168 (![] : Fin 0 → Fin S4096x7168.rank)
  reducesTo_S4096x7168_S_d0_1 : S4096x7168.ReducesTo [0, 1] S_

variable [Facts]

def fn {F : FTy → Type} [FloatOps F] (main_arg0 : FVec F S4096x7168 .bf16) (main_arg1 : IVec S13 32) (main_arg2 : FVec F S13x2048x7168 .fp8e4m3) (main_arg3 : FVec F S13x2048 .f32) : IVec S_ 1 :=
  let main_c : IVec S_ 32 := constantI S_ 32 0#32
  let main_v0 : IVec S13 32 := broadcastInDim S13 ![] bcast_S_S13 main_c
  let main_v1 : IVec S13 1 := cmpi .sge main_arg1 main_v0
  let main_c_0 : IVec S_ 1 := constantI S_ 1 1#1
  let main_v2 : IVec S_ 1 := (fun x v => Host.reduce IntOp.andi x v reducesTo_S13_S_d0 h_S_) main_v1 main_c_0
  let main_c_1 : IVec S_ 32 := constantI S_ 32 4096#32
  let main_v3 : IVec S13 32 := broadcastInDim S13 ![] bcast_S_S13 main_c_1
  let main_v4 : IVec S13 1 := cmpi .sle main_arg1 main_v3
  let main_c_2 : IVec S_ 1 := constantI S_ 1 1#1
  let main_v5 : IVec S_ 1 := (fun x v => Host.reduce IntOp.andi x v reducesTo_S13_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S13_S_d0 h_S_) main_arg1 main_c_3
  let main_c_4 : IVec S_ 32 := constantI S_ 32 4096#32
  let main_v8 : IVec S_ 1 := cmpi .eq main_v7 main_c_4
  let main_v9 : IVec S_ 1 := andi main_v6 main_v8
  let main_v10 : FVec F S4096x7168 .bf16 := Host.absf main_arg0
  let main_cst : FVec F S_ .bf16 := constant S_ .bf16 0x7F7F#16
  let main_v11 : FVec F S4096x7168 .bf16 := broadcastInDim S4096x7168 ![] bcast_S_S4096x7168 main_cst
  let main_v12 : IVec S4096x7168 1 := cmpf .ole main_v10 main_v11
  let main_c_5 : IVec S_ 1 := constantI S_ 1 1#1
  let main_v13 : IVec S_ 1 := (fun x v => Host.reduce IntOp.andi x v reducesTo_S4096x7168_S_d0_1 h_S_) main_v12 main_c_5
  let main_v14 : IVec S_ 1 := andi main_v9 main_v13
  main_v14
-- ==== Pre_groups_split_rows.lean ====
abbrev S4096x7168 : Shape := ⟨2, ![4096, 7168]⟩
abbrev S13 : Shape := ⟨1, ![13]⟩
abbrev S13x2048x7168 : Shape := ⟨3, ![13, 2048, 7168]⟩
abbrev S13x2048 : Shape := ⟨2, ![13, 2048]⟩
abbrev S_ : Shape := ⟨0, ![]⟩

class Facts : Prop where
  bcast_S_S13 : S_.BroadcastsInDim S13 (![] : Fin 0 → Fin S13.rank)
  reducesTo_S13_S_d0 : S13.ReducesTo [0] S_
  h_S_ : 0 < S_.numel

variable [Facts]

def fn {F : FTy → Type} [FloatOps F] (main_arg0 : FVec F S4096x7168 .bf16) (main_arg1 : IVec S13 32) (main_arg2 : FVec F S13x2048x7168 .fp8e4m3) (main_arg3 : FVec F S13x2048 .f32) : IVec S_ 1 :=
  let main_c : IVec S_ 32 := constantI S_ 32 0#32
  let main_v0 : IVec S13 32 := broadcastInDim S13 ![] bcast_S_S13 main_c
  let main_v1 : IVec S13 1 := cmpi .sge main_arg1 main_v0
  let main_c_0 : IVec S_ 1 := constantI S_ 1 1#1
  let main_v2 : IVec S_ 1 := (fun x v => Host.reduce IntOp.andi x v reducesTo_S13_S_d0 h_S_) main_v1 main_c_0
  let main_c_1 : IVec S_ 32 := constantI S_ 32 4096#32
  let main_v3 : IVec S13 32 := broadcastInDim S13 ![] bcast_S_S13 main_c_1
  let main_v4 : IVec S13 1 := cmpi .sle main_arg1 main_v3
  let main_c_2 : IVec S_ 1 := constantI S_ 1 1#1
  let main_v5 : IVec S_ 1 := (fun x v => Host.reduce IntOp.andi x v reducesTo_S13_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S13_S_d0 h_S_) main_arg1 main_c_3
  let main_c_4 : IVec S_ 32 := constantI S_ 32 4096#32
  let main_v8 : IVec S_ 1 := cmpi .eq main_v7 main_c_4
  let main_v9 : IVec S_ 1 := andi main_v6 main_v8
  main_v9
-- ==== Kernel.lean ====
abbrev S4096x7168 : Shape := ⟨2, ![4096, 7168]⟩
abbrev S13 : Shape := ⟨1, ![13]⟩
abbrev S13x2048x7168 : Shape := ⟨3, ![13, 2048, 7168]⟩
abbrev S13x2048 : Shape := ⟨2, ![13, 2048]⟩
abbrev S4096x128 : Shape := ⟨2, ![4096, 128]⟩
abbrev S128x7168 : Shape := ⟨2, ![128, 7168]⟩
abbrev S128x128 : Shape := ⟨2, ![128, 128]⟩
abbrev S128 : Shape := ⟨1, ![128]⟩
abbrev S128x1 : Shape := ⟨2, ![128, 1]⟩
abbrev S128x255 : Shape := ⟨2, ![128, 255]⟩
abbrev S_ : Shape := ⟨0, ![]⟩
abbrev S20 : Shape := ⟨1, ![20]⟩
abbrev S1 : Shape := ⟨1, ![1]⟩
abbrev S1x20 : Shape := ⟨2, ![1, 20]⟩
abbrev S13x1 : Shape := ⟨2, ![13, 1]⟩
abbrev S13x20 : Shape := ⟨2, ![13, 20]⟩
abbrev S20x1 : Shape := ⟨2, ![20, 1]⟩
abbrev S13x1x2048 : Shape := ⟨3, ![13, 1, 2048]⟩
abbrev S4096x2048 : Shape := ⟨2, ![4096, 2048]⟩
abbrev S512x7168 : Shape := ⟨2, ![512, 7168]⟩
abbrev S512x128 : Shape := ⟨2, ![512, 128]⟩
abbrev S1x512x7168 : Shape := ⟨3, ![1, 512, 7168]⟩
abbrev S1x1x512 : Shape := ⟨3, ![1, 1, 512]⟩
abbrev S512x512 : Shape := ⟨2, ![512, 512]⟩
abbrev S512x1 : Shape := ⟨2, ![512, 1]⟩
abbrev S1x512 : Shape := ⟨2, ![1, 512]⟩

abbrev nBuf : Space → Nat
  | .hbm => 124
  | .vmem => 16
  | .smem => 4
  | _ => 0

abbrev bufTy : (tb : Table) → Fin (tcTables nBuf tb) → BufTy
  | .hbm, ⟨0, _⟩ => ⟨S4096x7168, .bf16⟩
  | .hbm, ⟨1, _⟩ => ⟨S13, .i32⟩
  | .hbm, ⟨2, _⟩ => ⟨S13x2048x7168, .fp8e4m3⟩
  | .hbm, ⟨3, _⟩ => ⟨S13x2048, .f32⟩
  | .hbm, ⟨4, _⟩ => ⟨S4096x7168, .fp8e5m2⟩
  | .hbm, ⟨5, _⟩ => ⟨S4096x128, .f32⟩
  | .hbm, ⟨6, _⟩ => ⟨S_, .i32⟩
  | .hbm, ⟨7, _⟩ => ⟨S_, .i32⟩
  | .hbm, ⟨8, _⟩ => ⟨S13, .i32⟩
  | .hbm, ⟨9, _⟩ => ⟨S13, .i32⟩
  | .hbm, ⟨10, _⟩ => ⟨S_, .i32⟩
  | .hbm, ⟨11, _⟩ => ⟨S_, .i32⟩
  | .hbm, ⟨12, _⟩ => ⟨S13, .i32⟩
  | .hbm, ⟨13, _⟩ => ⟨S13, .i32⟩
  | .hbm, ⟨14, _⟩ => ⟨S13, .i32⟩
  | .hbm, ⟨15, _⟩ => ⟨S_, .i32⟩
  | .hbm, ⟨16, _⟩ => ⟨S13, .i32⟩
  | .hbm, ⟨17, _⟩ => ⟨S13, .i1⟩
  | .hbm, ⟨18, _⟩ => ⟨S13, .i32⟩
  | .hbm, ⟨19, _⟩ => ⟨S13, .i32⟩
  | .hbm, ⟨20, _⟩ => ⟨S_, .i32⟩
  | .hbm, ⟨21, _⟩ => ⟨S13, .i32⟩
  | .hbm, ⟨22, _⟩ => ⟨S13, .i1⟩
  | .hbm, ⟨23, _⟩ => ⟨S13, .i1⟩
  | .hbm, ⟨24, _⟩ => ⟨S_, .i32⟩
  | .hbm, ⟨25, _⟩ => ⟨S13, .i32⟩
  | .hbm, ⟨26, _⟩ => ⟨S13, .i32⟩
  | .hbm, ⟨27, _⟩ => ⟨S13, .i32⟩
  | .hbm, ⟨28, _⟩ => ⟨S_, .i32⟩
  | .hbm, ⟨29, _⟩ => ⟨S13, .i32⟩
  | .hbm, ⟨30, _⟩ => ⟨S13, .i1⟩
  | .hbm, ⟨31, _⟩ => ⟨S_, .i32⟩
  | .hbm, ⟨32, _⟩ => ⟨S13, .i32⟩
  | .hbm, ⟨33, _⟩ => ⟨S13, .i32⟩
  | .hbm, ⟨34, _⟩ => ⟨S_, .i32⟩
  | .hbm, ⟨35, _⟩ => ⟨S13, .i32⟩
  | .hbm, ⟨36, _⟩ => ⟨S13, .i32⟩
  | .hbm, ⟨37, _⟩ => ⟨S_, .i32⟩
  | .hbm, ⟨38, _⟩ => ⟨S_, .i32⟩
  | .hbm, ⟨39, _⟩ => ⟨S13, .i32⟩
  | .hbm, ⟨40, _⟩ => ⟨S13, .i32⟩
  | .hbm, ⟨41, _⟩ => ⟨S13, .i32⟩
  | .hbm, ⟨42, _⟩ => ⟨S_, .i32⟩
  | .hbm, ⟨43, _⟩ => ⟨S13, .i32⟩
  | .hbm, ⟨44, _⟩ => ⟨S13, .i1⟩
  | .hbm, ⟨45, _⟩ => ⟨S13, .i32⟩
  | .hbm, ⟨46, _⟩ => ⟨S13, .i32⟩
  | .hbm, ⟨47, _⟩ => ⟨S_, .i32⟩
  | .hbm, ⟨48, _⟩ => ⟨S13, .i32⟩
  | .hbm, ⟨49, _⟩ => ⟨S13, .i1⟩
  | .hbm, ⟨50, _⟩ => ⟨S13, .i1⟩
  | .hbm, ⟨51, _⟩ => ⟨S_, .i32⟩
  | .hbm, ⟨52, _⟩ => ⟨S13, .i32⟩
  | .hbm, ⟨53, _⟩ => ⟨S13, .i32⟩
  | .hbm, ⟨54, _⟩ => ⟨S13, .i32⟩
  | .hbm, ⟨55, _⟩ => ⟨S13, .i32⟩
  | .hbm, ⟨56, _⟩ => ⟨S_, .i32⟩
  | .hbm, ⟨57, _⟩ => ⟨S_, .i32⟩
  | .hbm, ⟨58, _⟩ => ⟨S13, .i32⟩
  | .hbm, ⟨59, _⟩ => ⟨S13, .i32⟩
  | .hbm, ⟨60, _⟩ => ⟨S_, .i32⟩
  | .hbm, ⟨61, _⟩ => ⟨S_, .i32⟩
  | .hbm, ⟨62, _⟩ => ⟨S13, .i32⟩
  | .hbm, ⟨63, _⟩ => ⟨S20, .i32⟩
  | .hbm, ⟨64, _⟩ => ⟨S1, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S20, .i32⟩
  | .hbm, ⟨69, _⟩ => ⟨S20, .i32⟩
  | .hbm, ⟨70, _⟩ => ⟨S1x20, .i32⟩
  | .hbm, ⟨71, _⟩ => ⟨S13x1, .i32⟩
  | .hbm, ⟨72, _⟩ => ⟨S13x20, .i32⟩
  | .hbm, ⟨73, _⟩ => ⟨S13x20, .i32⟩
  | .hbm, ⟨74, _⟩ => ⟨S13x20, .i1⟩
  | .hbm, ⟨75, _⟩ => ⟨S13x20, .i32⟩
  | .hbm, ⟨76, _⟩ => ⟨S_, .i32⟩
  | .hbm, ⟨77, _⟩ => ⟨S_, .i32⟩
  | .hbm, ⟨78, _⟩ => ⟨S20, .i32⟩
  | .hbm, ⟨79, _⟩ => ⟨S20, .i1⟩
  | .hbm, ⟨80, _⟩ => ⟨S_, .i32⟩
  | .hbm, ⟨81, _⟩ => ⟨S20, .i32⟩
  | .hbm, ⟨82, _⟩ => ⟨S20, .i32⟩
  | .hbm, ⟨83, _⟩ => ⟨S20, .i32⟩
  | .hbm, ⟨84, _⟩ => ⟨S20x1, .i32⟩
  | .hbm, ⟨85, _⟩ => ⟨S20, .i32⟩
  | .hbm, ⟨86, _⟩ => ⟨S20, .i32⟩
  | .hbm, ⟨87, _⟩ => ⟨S_, .i32⟩
  | .hbm, ⟨88, _⟩ => ⟨S20, .i32⟩
  | .hbm, ⟨89, _⟩ => ⟨S20, .i1⟩
  | .hbm, ⟨90, _⟩ => ⟨S_, .i32⟩
  | .hbm, ⟨91, _⟩ => ⟨S20, .i32⟩
  | .hbm, ⟨92, _⟩ => ⟨S20, .i32⟩
  | .hbm, ⟨93, _⟩ => ⟨S20, .i32⟩
  | .hbm, ⟨94, _⟩ => ⟨S20x1, .i32⟩
  | .hbm, ⟨95, _⟩ => ⟨S20, .i32⟩
  | .hbm, ⟨96, _⟩ => ⟨S_, .i32⟩
  | .hbm, ⟨97, _⟩ => ⟨S20, .i32⟩
  | .hbm, ⟨98, _⟩ => ⟨S20, .i1⟩
  | .hbm, ⟨99, _⟩ => ⟨S_, .i32⟩
  | .hbm, ⟨100, _⟩ => ⟨S20, .i32⟩
  | .hbm, ⟨101, _⟩ => ⟨S20, .i32⟩
  | .hbm, ⟨102, _⟩ => ⟨S20, .i32⟩
  | .hbm, ⟨103, _⟩ => ⟨S20x1, .i32⟩
  | .hbm, ⟨104, _⟩ => ⟨S20, .i32⟩
  | .hbm, ⟨105, _⟩ => ⟨S20, .i32⟩
  | .hbm, ⟨106, _⟩ => ⟨S_, .i32⟩
  | .hbm, ⟨107, _⟩ => ⟨S20, .i32⟩
  | .hbm, ⟨108, _⟩ => ⟨S20, .i1⟩
  | .hbm, ⟨109, _⟩ => ⟨S_, .i32⟩
  | .hbm, ⟨110, _⟩ => ⟨S20, .i32⟩
  | .hbm, ⟨111, _⟩ => ⟨S20, .i32⟩
  | .hbm, ⟨112, _⟩ => ⟨S20, .i32⟩
  | .hbm, ⟨113, _⟩ => ⟨S20x1, .i32⟩
  | .hbm, ⟨114, _⟩ => ⟨S_, .i32⟩
  | .hbm, ⟨115, _⟩ => ⟨S20, .i32⟩
  | .hbm, ⟨116, _⟩ => ⟨S20, .i1⟩
  | .hbm, ⟨117, _⟩ => ⟨S_, .i32⟩
  | .hbm, ⟨118, _⟩ => ⟨S20, .i32⟩
  | .hbm, ⟨119, _⟩ => ⟨S20, .i32⟩
  | .hbm, ⟨120, _⟩ => ⟨S20, .i32⟩
  | .hbm, ⟨121, _⟩ => ⟨S20x1, .i32⟩
  | .hbm, ⟨122, _⟩ => ⟨S13x1x2048, .f32⟩
  | .hbm, ⟨123, _⟩ => ⟨S4096x2048, .bf16⟩
  | .local _ .vmem, ⟨0, _⟩ => ⟨S128x7168, .bf16⟩
  | .local _ .vmem, ⟨1, _⟩ => ⟨S128x7168, .bf16⟩
  | .local _ .vmem, ⟨2, _⟩ => ⟨S128x7168, .fp8e5m2⟩
  | .local _ .vmem, ⟨3, _⟩ => ⟨S128x7168, .fp8e5m2⟩
  | .local _ .vmem, ⟨4, _⟩ => ⟨S128x128, .f32⟩
  | .local _ .vmem, ⟨5, _⟩ => ⟨S128x128, .f32⟩
  | .local _ .vmem, ⟨6, _⟩ => ⟨S512x7168, .fp8e5m2⟩
  | .local _ .vmem, ⟨7, _⟩ => ⟨S512x7168, .fp8e5m2⟩
  | .local _ .vmem, ⟨8, _⟩ => ⟨S512x128, .f32⟩
  | .local _ .vmem, ⟨9, _⟩ => ⟨S512x128, .f32⟩
  | .local _ .vmem, ⟨10, _⟩ => ⟨S1x512x7168, .fp8e4m3⟩
  | .local _ .vmem, ⟨11, _⟩ => ⟨S1x512x7168, .fp8e4m3⟩
  | .local _ .vmem, ⟨12, _⟩ => ⟨S1x1x512, .f32⟩
  | .local _ .vmem, ⟨13, _⟩ => ⟨S1x1x512, .f32⟩
  | .local _ .vmem, ⟨14, _⟩ => ⟨S512x512, .bf16⟩
  | .local _ .vmem, ⟨15, _⟩ => ⟨S512x512, .bf16⟩
  | .local _ .smem, ⟨0, _⟩ => ⟨S20, .i32⟩
  | .local _ .smem, ⟨1, _⟩ => ⟨S20, .i32⟩
  | .local _ .smem, ⟨2, _⟩ => ⟨S20, .i32⟩
  | .local _ .smem, ⟨3, _⟩ => ⟨S20, .i32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_call0_call0_c : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_c : Ref sig .tc := ⟨.hbm, 20, rfl⟩
abbrev main_call1_v9 : Ref sig .tc := ⟨.hbm, 21, rfl⟩
abbrev main_call1_v10 : Ref sig .tc := ⟨.hbm, 22, rfl⟩
abbrev main_call1_v11 : Ref sig .tc := ⟨.hbm, 23, rfl⟩
abbrev main_call1_c_0 : Ref sig .tc := ⟨.hbm, 24, rfl⟩
abbrev main_call1_v12 : Ref sig .tc := ⟨.hbm, 25, rfl⟩
abbrev main_call1_v13 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_c_1 : Ref sig .tc := ⟨.hbm, 31, rfl⟩
abbrev main_v6 : Ref sig .tc := ⟨.hbm, 32, rfl⟩
abbrev main_v7 : Ref sig .tc := ⟨.hbm, 33, rfl⟩
abbrev main_c_2 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_c : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_0 : Ref sig .tc := ⟨.hbm, 51, rfl⟩
abbrev main_call2_v12 : Ref sig .tc := ⟨.hbm, 52, rfl⟩
abbrev main_call2_v13 : Ref sig .tc := ⟨.hbm, 53, rfl⟩
abbrev main_v10 : Ref sig .tc := ⟨.hbm, 54, rfl⟩
abbrev main_v11 : Ref sig .tc := ⟨.hbm, 55, rfl⟩
abbrev main_c_4 : Ref sig .tc := ⟨.hbm, 56, rfl⟩
abbrev main_call3_v0 : Ref sig .tc := ⟨.hbm, 57, rfl⟩
abbrev main_call3_v1 : Ref sig .tc := ⟨.hbm, 58, rfl⟩
abbrev main_v12 : Ref sig .tc := ⟨.hbm, 59, rfl⟩
abbrev main_call4_call0_c : Ref sig .tc := ⟨.hbm, 60, rfl⟩
abbrev main_call4_call0_v0 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_c_5 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_call5_call0_v0 : Ref sig .tc := ⟨.hbm, 70, rfl⟩
abbrev main_call5_call0_v1 : Ref sig .tc := ⟨.hbm, 71, rfl⟩
abbrev main_call5_call0_v2 : Ref sig .tc := ⟨.hbm, 72, rfl⟩
abbrev main_call5_call0_v3 : Ref sig .tc := ⟨.hbm, 73, rfl⟩
abbrev main_call5_call0_v4 : Ref sig .tc := ⟨.hbm, 74, rfl⟩
abbrev main_call5_call0_v5 : Ref sig .tc := ⟨.hbm, 75, rfl⟩
abbrev main_call5_call0_c : Ref sig .tc := ⟨.hbm, 76, rfl⟩
abbrev main_c_6 : Ref sig .tc := ⟨.hbm, 77, rfl⟩
abbrev main_v21 : Ref sig .tc := ⟨.hbm, 78, rfl⟩
abbrev main_v22 : Ref sig .tc := ⟨.hbm, 79, rfl⟩
abbrev main_c_7 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_c_8 : Ref sig .tc := ⟨.hbm, 87, rfl⟩
abbrev main_v29 : Ref sig .tc := ⟨.hbm, 88, rfl⟩
abbrev main_v30 : Ref sig .tc := ⟨.hbm, 89, rfl⟩
abbrev main_c_9 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_c_10 : Ref sig .tc := ⟨.hbm, 96, rfl⟩
abbrev main_v36 : Ref sig .tc := ⟨.hbm, 97, rfl⟩
abbrev main_v37 : Ref sig .tc := ⟨.hbm, 98, rfl⟩
abbrev main_c_11 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_c_12 : Ref sig .tc := ⟨.hbm, 106, rfl⟩
abbrev main_v45 : Ref sig .tc := ⟨.hbm, 107, rfl⟩
abbrev main_v46 : Ref sig .tc := ⟨.hbm, 108, rfl⟩
abbrev main_c_13 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_c_14 : Ref sig .tc := ⟨.hbm, 114, rfl⟩
abbrev main_v52 : Ref sig .tc := ⟨.hbm, 115, rfl⟩
abbrev main_v53 : Ref sig .tc := ⟨.hbm, 116, rfl⟩
abbrev main_c_15 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v59 : Ref sig .tc := ⟨.hbm, 122, rfl⟩
abbrev main_v60 : Ref sig .tc := ⟨.hbm, 123, rfl⟩
abbrev main_v44 : Ref sig .tc := ⟨.smem, 0, rfl⟩
abbrev main_v20 : Ref sig .tc := ⟨.smem, 1, rfl⟩
abbrev main_v51 : Ref sig .tc := ⟨.smem, 2, rfl⟩
abbrev main_v58 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7168 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 20], ![false, false]⟩

abbrev pre1 : Pipeline.Prefetch sig := ⟨4, ![main_v44.idx, main_v20.idx, main_v51.idx, main_v58.idx], fun | 0 => main_v44.names | 1 => main_v20.names | 2 => main_v51.names | 3 => main_v58.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def cc1_transform_0 (k1_off1_inb : ∀ i : grid1.Coords, ∀ a, (k1_off1 i) a + S1.size a ≤ S20.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S20) ![v0.toNat] S1.size (k1_off1_inb i)) numel1_S1
  let c0_i32 : BitVec 32 := 0#32
  let c0_i32_0 : BitVec 32 := 0#32
  ![v1.toNat, c0_i32.toNat]

def cc1_transform_1 (k1_off1_inb : ∀ i : grid1.Coords, ∀ a, (k1_off1 i) a + S1.size a ≤ S20.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S20) ![v0.toNat] S1.size (k1_off1_inb i)) numel1_S1
  let c0_i32 : BitVec 32 := 0#32
  let c0_i32_0 : BitVec 32 := 0#32
  ![v1.toNat, c0_i32.toNat]

def cc1_transform_2 (k1_off1_inb : ∀ i : grid1.Coords, ∀ a, (k1_off1 i) a + S1.size a ≤ S20.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S20) ![v0.toNat] S1.size (k1_off1_inb i)) numel1_S1
  let c0_i32 : BitVec 32 := 0#32
  let c0_i32_0 : BitVec 32 := 0#32
  ![v1.toNat, arg0.toNat, c0_i32.toNat]

def cc1_transform_3 (k1_off1_inb : ∀ i : grid1.Coords, ∀ a, (k1_off1 i) a + S1.size a ≤ S20.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S20) ![v0.toNat] S1.size (k1_off1_inb i)) numel1_S1
  let c0_i32 : BitVec 32 := 0#32
  let c0_i32_0 : BitVec 32 := 0#32
  ![v1.toNat, c0_i32.toNat, arg0.toNat]

def cc1_transform_4 (k1_off1_inb : ∀ i : grid1.Coords, ∀ a, (k1_off1 i) a + S1.size a ≤ S20.size a) (numel1_S1 : S1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S20) ![v0.toNat] S1.size (k1_off1_inb i)) numel1_S1
  let c0_i32 : BitVec 32 := 0#32
  ![v1.toNat, arg0.toNat]

abbrev stage1_0 : Fin 2 → Memref sig .tc .vmem S512x7168 .fp8e5m2 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512x7168 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4096x7168 : Shape := ⟨2, ![4096, 7168]⟩
abbrev S13 : Shape := ⟨1, ![13]⟩
abbrev S13x2048x7168 : Shape := ⟨3, ![13, 2048, 7168]⟩
abbrev S13x2048 : Shape := ⟨2, ![13, 2048]⟩
abbrev S4096x2048 : Shape := ⟨2, ![4096, 2048]⟩
abbrev S4096 : Shape := ⟨1, ![4096]⟩
abbrev S4096x1 : Shape := ⟨2, ![4096, 1]⟩
abbrev S4096x254 : Shape := ⟨2, ![4096, 254]⟩
abbrev S1 : Shape := ⟨1, ![1]⟩
abbrev S1x2048x7168 : Shape := ⟨3, ![1, 2048, 7168]⟩
abbrev S2048x7168 : Shape := ⟨2, ![2048, 7168]⟩
abbrev S1x2048 : Shape := ⟨2, ![1, 2048]⟩

abbrev nBuf : Space → Nat
  | .hbm => 5
  | .vmem => 4
  | .smem => 1
  | _ => 0

abbrev bufTy : (tb : Table) → Fin (tcTables nBuf tb) → BufTy
  | .hbm, ⟨0, _⟩ => ⟨S4096x7168, .bf16⟩
  | .hbm, ⟨1, _⟩ => ⟨S13, .i32⟩
  | .hbm, ⟨2, _⟩ => ⟨S13x2048x7168, .fp8e4m3⟩
  | .hbm, ⟨3, _⟩ => ⟨S13x2048, .f32⟩
  | .hbm, ⟨4, _⟩ => ⟨S4096x2048, .bf16⟩
  | .local _ .vmem, ⟨0, _⟩ => ⟨S4096x7168, .bf16⟩
  | .local _ .vmem, ⟨1, _⟩ => ⟨S13x2048x7168, .fp8e4m3⟩
  | .local _ .vmem, ⟨2, _⟩ => ⟨S13x2048, .f32⟩
  | .local _ .vmem, ⟨3, _⟩ => ⟨S4096x2048, .bf16⟩
  | .local _ .smem, ⟨0, _⟩ => ⟨S13, .i32⟩
  | _, _ => ⟨S4096x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S13 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13x2048x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S13x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.TableNat.lean ====
/-
  The visit tables as arithmetic of natural numbers.

  Thirteen groups of rows, of sizes `g 0 … g 12` with 4096 rows in all, lie one after the other: group `k` holds rows `S g k` up to
  `S g (k + 1)` (`S` sums a prefix). The rows are cut into 8 tiles of 512. A VISIT is a pair of a tile and a group that meets it; group `k`
  makes `nv g k` visits, the visits are numbered through group by group, and a table of 20 entries lists them, its last one repeated.
  This module proves what the grouped product needs of that table: `tile_lt`, `grp_lt` (entries are in range), `grp_of_row` (a row
  between a visit's bounds belongs to the visit's group), `tile_mono` (tiles come in order), `covered` (every row of every tile is met).
-/
module

public import Idealize.ShloMosaic.Lib.Routing.OpsSet

@[expose] public section

namespace Cert.Dgrad

/-- The sum of the first `n` values of `f`. -/
def S (f : ℕ → ℕ) (n : ℕ) : ℕ := ((List.range n).map f).sum

theorem S_succ (f : ℕ → ℕ) (n : ℕ) : S f (n + 1) = S f n + f n := by
  unfold S; rw [List.range_succ, List.map_append, List.sum_append]; simp

theorem S_zero (f : ℕ → ℕ) : S f 0 = 0 := rfl

theorem S_mono (f : ℕ → ℕ) {a b : ℕ} (h : a ≤ b) : S f a ≤ S f b := by
  induction b, h using Nat.le_induction with
  | base => exact le_rfl
  | succ b _ ih => rw [S_succ]; omega

theorem S_congr {f f' : ℕ → ℕ} {n : ℕ} (h : ∀ i < n, f i = f' i) : S f n = S f' n := by
  unfold S; congr 1; exact List.map_congr_left fun i hi => h i (List.mem_range.mp hi)

/-- How many of the first 13 values of a prefix sum are at most `x`: `k`, where `k` is the step at which the sum passes `x`. -/
theorem count_eq {f : ℕ → ℕ} {x k n : ℕ} (hk : k < n) (h0 : S f k ≤ x) (h1 : x < S f (k + 1)) :
    Nat.count (fun i => S f (i + 1) ≤ x) n = k := by
  rw [Nat.count_eq_card_filter_range]
  rw [show (Finset.range n).filter (fun i => S f (i + 1) ≤ x) = Finset.range k from ?_, Finset.card_range]
  ext i
  simp only [Finset.mem_filter, Finset.mem_range]
  constructor
  · rintro ⟨-, h⟩
    by_contra hc
    have := S_mono f (show k + 1 ≤ i + 1 by omega)
    omega
  · intro h
    exact ⟨by omega, (S_mono f (show i + 1 ≤ k by omega)).trans h0⟩

/-- Below the whole sum, there is such a step. -/
theorem exists_step {f : ℕ → ℕ} {x n : ℕ} (h : x < S f n) : ∃ k < n, S f k ≤ x ∧ x < S f (k + 1) := by
  induction n with
  | zero => rw [S_zero] at h; omega
  | succ n ih =>
    by_cases hx : x < S f n
    · obtain ⟨k, hk, h⟩ := ih hx; exact ⟨k, by omega, h⟩
    · exact ⟨n, by omega, by omega, h⟩

variable (g : ℕ → ℕ)

/-- How many tiles group `k` meets. -/
def nv (k : ℕ) : ℕ := if 0 < g k then (S g (k + 1) + 511) / 512 - S g k / 512 else 0

/-- The visit that entry `j` of the tables lists. -/
def idx (j : ℕ) : ℕ := min j (S (nv g) 13 - 1)

/-- Its group. -/
def grp (j : ℕ) : ℕ := Nat.count (fun k => S (nv g) (k + 1) ≤ idx g j) 13

/-- Its tile. -/
def tile (j : ℕ) : ℕ := S g (grp g j) / 512 + idx g j - S (nv g) (grp g j)

/-- The group that row `r` belongs to. -/
def egroup (r : ℕ) : ℕ := Nat.count (fun k => S g (k + 1) ≤ r) 13

theorem nv_bound (k : ℕ) : S (nv g) (k + 1) ≤ (S g (k + 1) + 511) / 512 + k := by
  induction k with
  | zero =>
    rw [S_succ, S_zero, nv, S_zero]
    split <;> omega
  | succ k ih =>
    rw [S_succ, nv]
    have h := S_succ g (k + 1)
    split <;> omega

variable {g} (hg : S g 13 = 4096)

include hg in
theorem visits_le : S (nv g) 13 ≤ 20 := by
  have := nv_bound g 12
  rw [hg] at this
  omega

theorem nv_pos {k : ℕ} (h : 0 < g k) : 0 < nv g k := by
  have := S_succ g k
  rw [nv, if_pos h]
  omega

include hg in
theorem visits_pos : 0 < S (nv g) 13 := by
  by_contra h
  obtain ⟨k, hk, h0, h1⟩ := exists_step (f := g) (x := 0) (n := 13) (by omega)
  have h2 := nv_pos (g := g) (k := k) (by have := S_succ g k; omega)
  have h3 := S_succ (nv g) k
  have h4 := S_mono (nv g) (show k + 1 ≤ 13 by omega)
  omega

include hg in
/-- Entry `j`'s group `k`: the visit is among the group's. -/
theorem grp_spec (j : ℕ) : grp g j < 13 ∧ S (nv g) (grp g j) ≤ idx g j ∧ idx g j < S (nv g) (grp g j + 1) := by
  have hv := visits_pos hg
  obtain ⟨k, hk, h0, h1⟩ := exists_step (f := nv g) (x := idx g j) (n := 13) (by unfold idx; omega)
  have : grp g j = k := count_eq hk h0 h1
  rw [this]
  exact ⟨hk, h0, h1⟩

include hg in
theorem grp_lt (j : ℕ) : grp g j < 13 := (grp_spec hg j).1

include hg in
/-- Entry `j`'s tile, against its group's rows. -/
theorem tile_spec (j : ℕ) : S g (grp g j) / 512 ≤ tile g j ∧ tile g j < (S g (grp g j + 1) + 511) / 512 := by
  obtain ⟨hk, h0, h1⟩ := grp_spec hg j
  rw [S_succ, nv] at h1
  unfold tile
  split at h1 <;> omega

include hg in
theorem tile_lt (j : ℕ) : tile g j < 8 := by
  have h := (tile_spec hg j).2
  have := S_mono g (show grp g j + 1 ≤ 13 by have := grp_lt hg j; omega)
  omega

include hg in
/-- (B) A row between a visit's bounds belongs to the visit's group. -/
theorem grp_of_row {j r : ℕ} (h0 : S g (grp g j) ≤ r) (h1 : r < S g (grp g j + 1)) : egroup g r = grp g j :=
  count_eq (grp_lt hg j) h0 h1

include hg in
/-- (C) The tiles come in order. -/
theorem tile_mono {j j' : ℕ} (h : j ≤ j') : tile g j ≤ tile g j' := by
  obtain ⟨hk, h0, h1⟩ := grp_spec hg j
  obtain ⟨hk', h0', h1'⟩ := grp_spec hg j'
  have hi : idx g j ≤ idx g j' := by unfold idx; omega
  rcases lt_trichotomy (grp g j) (grp g j') with hlt | heq | hgt
  · have h2 := (tile_spec hg j).2
    have h3 := (tile_spec hg j').1
    have h4 := S_mono g (show grp g j + 1 ≤ grp g j' by omega)
    omega
  · unfold tile; rw [heq] at h0 ⊢; omega
  · have := S_mono (nv g) (show grp g j' + 1 ≤ grp g j by omega)
    omega

include hg in
/-- (D) Every row of every tile is met by a visit. -/
theorem covered {r : ℕ} (hr : r < 4096) : ∃ j < 20, tile g j = r / 512 ∧ S g (grp g j) ≤ r ∧ r < S g (grp g j + 1) := by
  obtain ⟨k, hk, h0, h1⟩ := exists_step (f := g) (x := r) (n := 13) (by omega)
  have hpos : 0 < g k := by have := S_succ g k; omega
  have hn : nv g k = (S g (k + 1) + 511) / 512 - S g k / 512 := by rw [nv, if_pos hpos]
  have hs := S_succ (nv g) k
  have hm := S_mono (nv g) (show k + 1 ≤ 13 by omega)
  have hV := visits_le hg
  have hlt : S (nv g) k + (r / 512 - S g k / 512) < S (nv g) (k + 1) := by omega
  refine ⟨S (nv g) k + (r / 512 - S g k / 512), by omega, ?_⟩
  have hidx : idx g (S (nv g) k + (r / 512 - S g k / 512)) = S (nv g) k + (r / 512 - S g k / 512) := by unfold idx; omega
  have hgrp : grp g (S (nv g) k + (r / 512 - S g k / 512)) = k := by
    unfold grp; rw [hidx]; exact count_eq hk (by omega) hlt
  refine ⟨?_, by rw [hgrp]; exact h0, by rw [hgrp]; exact h1⟩
  unfold tile
  rw [hgrp, hidx]
  omega

include hg in
/-- Row `r`'s group: the one whose rows `r` is among. -/
theorem egroup_spec {r : ℕ} (hr : r < 4096) : egroup g r < 13 ∧ S g (egroup g r) ≤ r ∧ r < S g (egroup g r + 1) := by
  obtain ⟨k, hk, h0, h1⟩ := exists_step (f := g) (x := r) (n := 13) (by omega)
  rw [show egroup g r = k from count_eq hk h0 h1]
  exact ⟨hk, h0, h1⟩

end Cert.Dgrad

end
-- ==== Proof.Precond.lean ====
/-
  THE PRECONDITION READ. Thirteen nonnegative sizes, each at most 4096, whose wrapping sum is 4096, sum to 4096 as numbers.
-/
module

public import proofs.«01_k».proof.Pre_groups_split_rows
public import proofs.«01_k».proof.Proof.TableNat
public import Idealize.ShloMosaic.Lib.Routing.Main
public import Idealize.ShloMosaic.Lib.ReduceAll
public import Idealize.ShloMosaic.Lib.WordCmp

@[expose] public section

set_option maxRecDepth 16384

noncomputable section

namespace Cert.Dgrad

open Idealize.ShloMosaic Idealize.ShloMosaic.Routing Idealize.ShloMosaic.WordCmp

/-- Thirteen words as numbers. -/
def sizesOf (x : IVec (shape1 13) 32) (k : ℕ) : ℕ := if h : k < 13 then (x (ValueIdx.ix1 (⟨k, h⟩ : Fin 13)) : BitVec 32).toNat else 0

theorem sizesOf_holds (x : IVec (shape1 13) 32) (i : Fin 13) : x (ValueIdx.ix1 i) = BitVec.ofNat 32 (sizesOf x i.val) := by
  unfold sizesOf
  rw [dif_pos i.isLt]
  exact (BitVec.ofNat_toNat 32 _).symm ▸ (BitVec.setWidth_eq _).symm

theorem S_le_mul (f : ℕ → ℕ) (b : ℕ) (n : ℕ) (h : ∀ k < n, f k ≤ b) : S f n ≤ n * b := by
  induction n with
  | zero => exact (S_zero f).le.trans (Nat.zero_le _)
  | succ n ih =>
    rw [S_succ, Nat.succ_mul]
    exact Nat.add_le_add (ih fun k hk => h k (by omega)) (h n (by omega))

theorem andi_one {x y : BitVec 1} : IntOp.andi x y = 1#1 → x = 1#1 ∧ y = 1#1 := by
  revert x y; decide

theorem toNat_le_4096 {x : BitVec 32} (h0 : IntOp.cmpi .sge x 0#32 = 1#1) (h1 : IntOp.cmpi .sle x 4096#32 = 1#1) : x.toNat ≤ 4096 := by
  have h0' : (0#32 : BitVec 32).sle x = true := by
    revert h0; unfold IntOp.cmpi; cases h : (0#32 : BitVec 32).sle x <;> simp_all
  have h1' : x.sle 4096#32 = true := by
    revert h1; unfold IntOp.cmpi; cases h : x.sle 4096#32 <;> simp_all
  have a := BitVec.sle_iff_toInt_le.1 h0'
  have b := BitVec.sle_iff_toInt_le.1 h1'
  have hlt := toNat_lt_of_toInt_nonneg (x := x) (by simpa using a)
  have e : (4096#32 : BitVec 32).toInt = 4096 := by decide
  rw [e, BitVec.toInt_eq_toNat_of_lt (by omega)] at b
  exact_mod_cast b

/-- The condition on the group sizes alone. -/
theorem sum_of_words (x : IVec (shape1 13) 32) (h : (shape1 13).ReducesTo [0] shape0) (hu : 0 < shape0.numel)
    (h0 : ∀ i, IntOp.cmpi .sge (x i) 0#32 = 1#1) (h1 : ∀ i, IntOp.cmpi .sle (x i) 4096#32 = 1#1)
    (hs : IntOp.cmpi .eq (Host.reduce IntOp.addi x (constantI shape0 32 0#32) h hu ValueIdx.ix0) 4096#32 = 1#1) :
    S (sizesOf x) 13 = 4096 := by
  rw [reduce_sum x (sizesOf x) (sizesOf_holds x) h hu] at hs
  have hb : S (sizesOf x) 13 ≤ 13 * 4096 := S_le_mul _ _ _ fun k hk => by
    unfold sizesOf
    rw [dif_pos hk]
    exact toNat_le_4096 (h0 _) (h1 _)
  have e : BitVec.ofNat 32 (S (sizesOf x) 13) = 4096#32 := by
    by_contra hne
    revert hs
    show IntOp.cmpi .eq (BitVec.ofNat 32 (S (sizesOf x) 13)) 4096#32 ≠ 1#1
    show BitVec.ofBool (BitVec.ofNat 32 (S (sizesOf x) 13) == 4096#32) ≠ 1#1
    rw [beq_false_of_ne hne]
    decide
  have e' := congrArg BitVec.toNat e
  rw [BitVec.toNat_ofNat, Nat.mod_eq_of_lt (by omega)] at e'
  exact e'

variable {F : FTy → Type} [FloatOps F]

theorem split_sum [Cert.Pre_groups_split_rows.Facts] (a0) (x : IVec (shape1 13) 32) (a2) (a3)
    (h : Cert.Pre_groups_split_rows.fn (F := F) a0 x a2 a3 = fun _ => 1#1) : S (sizesOf x) 13 = 4096 := by
  have h' := congrFun h ValueIdx.ix0
  obtain ⟨h01, hs⟩ := andi_one h'
  obtain ⟨h0, h1⟩ := andi_one h01
  haveI : Subsingleton Cert.Pre_groups_split_rows.S_.Idx := ⟨fun a b => funext fun i => i.elim0⟩
  exact sum_of_words x _ _ (fun i => Host.reduce_andi_all _ _ _ _ _ h0 i) (fun i => Host.reduce_andi_all _ _ _ _ _ h1 i) hs

end Cert.Dgrad

end
-- ==== Proof.QuantMath.lean ====
/-
  THE ROW QUANTISER OVER THE REALS. The scale is a power of two above the row's largest magnitude over 57344, so dividing by it clips
  nothing, and multiplying the products' sum by it again undoes the division. Both ways of finding the exponent are covered: by counting
  the powers of two that do not exceed the quotient, and as the least power of two above it.
-/
module

public import Idealize.ShloMosaic.PureOps.Ideal.Laws
public import Idealize.ShloMosaic.Lib.ValueIdx
public import Idealize.ShloMosaic.Lib.WordCmp

@[expose] public section

noncomputable section

namespace Cert.Dgrad

open Idealize.ShloMosaic

/-! ## The constants -/

/-- 1 / 57344 rounded up to f32. -/
def cE : ℝ := 9586981 * (2 : ℝ) ^ (-39 : ℤ)

/-- A binary word's value from its three fields. -/
theorem ieee_fields (e m : ℕ) {w : ℕ} (b : BitVec w) (ng : Bool) (ex fr : ℕ) (hs : (b.extractLsb' (e + m) 1 == 1#1) = ng)
    (he : (b.extractLsb' m e).toNat = ex) (hf : (b.extractLsb' 0 m).toNat = fr) :
    Ideal.ieee e m b = if ex = 2 ^ e - 1 then (if fr = 0 then (if ng then ⊥ else ⊤) else ⊥)
      else if ex = 0 then (((if ng then -1 else 1) * fr * (2 : ℝ) ^ (1 - ((2 ^ (e - 1) - 1 : Int)) - m : Int) : ℝ) : EReal)
      else (((if ng then -1 else 1) * (2 ^ m + fr : Nat) * (2 : ℝ) ^ ((ex : Int) - ((2 ^ (e - 1) - 1 : Int)) - m) : ℝ) : EReal) := by
  subst hs he hf
  rfl

theorem ofBits_c : Ideal.ofBits .f32 0x37924925#32 = (cE : EReal) := by
  refine (ieee_fields 8 23 (0x37924925#32) false 111 1198373 (by decide +kernel) (by decide +kernel) (by decide +kernel)).trans ?_
  rw [if_neg (by norm_num), if_neg (by norm_num)]
  congr 1
  norm_num [cE]

theorem ofBits_hi : Ideal.ofBits .f32 0x47600000#32 = ((57344 : ℝ) : EReal) := by
  refine (ieee_fields 8 23 (0x47600000#32) false 142 6291456 (by decide +kernel) (by decide +kernel) (by decide +kernel)).trans ?_
  rw [if_neg (by norm_num), if_neg (by norm_num)]
  congr 1
  norm_num

theorem ofBits_lo : Ideal.ofBits .f32 0xC7600000#32 = ((-57344 : ℝ) : EReal) := by
  refine (ieee_fields 8 23 (0xC7600000#32) true 142 6291456 (by decide +kernel) (by decide +kernel) (by decide +kernel)).trans ?_
  rw [if_neg (by norm_num), if_neg (by norm_num)]
  congr 1
  norm_num

/-- The largest bf16. -/
def bfMax : ℝ := 255 * (2 : ℝ) ^ (120 : ℤ)

theorem ofBits_M : Ideal.ofBits .bf16 0x7F7F#16 = (bfMax : EReal) := by
  refine (ieee_fields 8 7 (0x7F7F#16) false 254 127 (by decide +kernel) (by decide +kernel) (by decide +kernel)).trans ?_
  rw [if_neg (by norm_num), if_neg (by norm_num)]
  congr 1
  norm_num [bfMax]

theorem ofBits_bot16 : Ideal.ofBits .bf16 0xFF80#16 = ⊥ := by
  refine (ieee_fields 8 7 (0xFF80#16) true 255 0 (by decide +kernel) (by decide +kernel) (by decide +kernel)).trans ?_
  rw [if_pos (by norm_num), if_pos rfl]
  rfl

theorem ofBits_bot32 : Ideal.ofBits .f32 0xFF800000#32 = ⊥ := by
  refine (ieee_fields 8 23 (0xFF800000#32) true 255 0 (by decide +kernel) (by decide +kernel) (by decide +kernel)).trans ?_
  rw [if_pos (by norm_num), if_pos rfl]
  rfl

theorem ofBits_top32 : Ideal.ofBits .f32 0x7F800000#32 = ⊤ := by
  refine (ieee_fields 8 23 (0x7F800000#32) false 255 0 (by decide +kernel) (by decide +kernel) (by decide +kernel)).trans ?_
  rw [if_pos (by norm_num), if_pos rfl]
  rfl

theorem ofBits_one32 : Ideal.ofBits .f32 0x3F800000#32 = ((1 : ℝ) : EReal) := by
  refine (ieee_fields 8 23 (0x3F800000#32) false 127 0 (by decide +kernel) (by decide +kernel) (by decide +kernel)).trans ?_
  rw [if_neg (by norm_num), if_neg (by norm_num)]
  congr 1
  norm_num

theorem cE_pos : 0 < cE := by unfold cE; positivity

theorem one_le_cE : 1 ≤ 57344 * cE := by unfold cE; norm_num

theorem bfMax_cE : bfMax * cE < (2 : ℝ) ^ (126 : ℤ) := by unfold bfMax cE; norm_num

/-! ## Powers of two by their bits -/

theorem pow_fields : ∀ k : Fin 256, ((IntOp.shli .vector (BitVec.ofNat 32 k.val) 23#32).extractLsb' 23 8).toNat = k.val
    ∧ ((IntOp.shli .vector (BitVec.ofNat 32 k.val) 23#32).extractLsb' 0 23).toNat = 0
    ∧ ((IntOp.shli .vector (BitVec.ofNat 32 k.val) 23#32).extractLsb' 31 1 == 1#1) = false := by decide +kernel

theorem pow_bits (k : ℕ) (h1 : 1 ≤ k) (h2 : k ≤ 254) :
    Ideal.ofBits .f32 (IntOp.shli .vector (BitVec.ofNat 32 k) 23#32) = (((2 : ℝ) ^ ((k : ℤ) - 127) : ℝ) : EReal) := by
  obtain ⟨e, f, s⟩ := pow_fields ⟨k, by omega⟩
  dsimp only at e f s
  generalize IntOp.shli .vector (BitVec.ofNat 32 k) 23#32 = b at e f s ⊢
  refine (ieee_fields 8 23 b false k 0 s e f).trans ?_
  rw [if_neg (by norm_num; omega), if_neg (by omega)]
  congr 1
  rw [show ((k : ℤ) - 127) = 23 + ((k : ℤ) - (2 ^ (8 - 1) - 1) - (23 : ℕ)) by norm_num, zpow_add₀ (by norm_num : (2 : ℝ) ≠ 0)]
  norm_num

theorem top_bits : Ideal.ofBits .f32 (IntOp.shli .vector (BitVec.ofNat 32 255) 23#32) = ⊤ := by
  obtain ⟨e, f, s⟩ := pow_fields ⟨255, by omega⟩
  dsimp only at e f s
  generalize IntOp.shli .vector (BitVec.ofNat 32 255) 23#32 = b at e f s ⊢
  refine (ieee_fields 8 23 b false 255 0 s e f).trans ?_
  rw [if_pos (by norm_num), if_pos rfl]
  rfl

/-- The exponent by counting: of the powers of two with biased exponents 1 … 255, the number that do not exceed `x` is the biased
    exponent of the largest that does not, so the next one exceeds it. -/
theorem count_pow (x : ℝ) (hx : x < (2 : ℝ) ^ (126 : ℤ)) :
    (Finset.univ.filter fun k : Fin 255 => Ideal.ofBits .f32 (IntOp.shli .vector (BitVec.ofNat 32 (k.val + 1)) 23#32) ≤ (x : EReal)).card ≤ 252
    ∧ x < (2 : ℝ) ^ (((Finset.univ.filter fun k : Fin 255 => Ideal.ofBits .f32 (IntOp.shli .vector (BitVec.ofNat 32 (k.val + 1)) 23#32) ≤ (x : EReal)).card : ℤ) - 126) := by
  set A := Finset.univ.filter fun k : Fin 255 => Ideal.ofBits .f32 (IntOp.shli .vector (BitVec.ofNat 32 (k.val + 1)) 23#32) ≤ (x : EReal) with hA
  have hmem : ∀ k : Fin 255, k ∈ A ↔ k.val + 1 ≤ 254 ∧ (2 : ℝ) ^ (((k.val + 1 : ℕ) : ℤ) - 127) ≤ x := fun k => by
    rw [hA, Finset.mem_filter]
    refine ⟨fun h => ?_, fun h => ⟨Finset.mem_univ _, ?_⟩⟩
    · have hk : k.val + 1 ≤ 254 := by
        by_contra hc
        have e : k.val + 1 = 255 := by have := k.isLt; omega
        have h2 := h.2
        rw [e, top_bits] at h2
        exact absurd h2 (not_le.2 (EReal.coe_lt_top x))
      have h2 := h.2
      rw [pow_bits _ (by omega) hk] at h2
      exact ⟨hk, EReal.coe_le_coe_iff.1 h2⟩
    · rw [pow_bits _ (by omega) h.1]
      exact EReal.coe_le_coe_iff.2 h.2
  have hlt : ∀ k ∈ A, k.val < 252 := fun k hk => by
    by_contra hc
    have h2 := ((hmem k).1 hk).2
    have : (2 : ℝ) ^ (126 : ℤ) ≤ (2 : ℝ) ^ (((k.val + 1 : ℕ) : ℤ) - 127) := zpow_le_zpow_right₀ (by norm_num) (by omega)
    linarith
  have hle : A.card ≤ 252 := by
    refine (Finset.card_le_card_of_injOn (t := Finset.range 252) (fun k => k.val) (fun k hk => Finset.mem_coe.2 (Finset.mem_range.2 (hlt k hk))) fun a _ b _ h => Fin.ext h).trans ?_
    rw [Finset.card_range]
  refine ⟨hle, ?_⟩
  by_contra hc
  rw [not_lt] at hc
  have hsub : (Finset.range (A.card + 1)) ⊆ A.image fun k => k.val := fun k hk => by
    have hk' := Finset.mem_range.1 hk
    refine Finset.mem_image.2 ⟨⟨k, by omega⟩, (hmem _).2 ⟨by show k + 1 ≤ 254; omega, le_trans (zpow_le_zpow_right₀ (by norm_num) ?_) hc⟩, rfl⟩
    show ((k + 1 : ℕ) : ℤ) - 127 ≤ (A.card : ℤ) - 126
    omega
  have := (Finset.card_le_card hsub).trans Finset.card_image_le
  rw [Finset.card_range] at this
  omega

/-! ## No clipping, and cancellation -/

theorem clip_id {v : EReal} {A s : ℝ} (hv : max v (-v) ≤ (A : EReal)) (hs : 0 < s) (hA : A * cE < s) :
    min ((57344 : ℝ) : EReal) (max ((-57344 : ℝ) : EReal) (v * ((1 / s : ℝ) : EReal))) = v * ((1 / s : ℝ) : EReal) := by
  have h1 : v ≤ A := (le_max_left _ _).trans hv
  have h2 : -v ≤ A := (le_max_right _ _).trans hv
  have h2' : ((-A : ℝ) : EReal) ≤ v := by rw [EReal.coe_neg]; exact EReal.neg_le.1 h2
  have hne : v ≠ ⊤ := ne_top_of_le_ne_top (EReal.coe_ne_top A) h1
  have hne' : v ≠ ⊥ := fun h => by rw [h] at h2'; exact absurd h2' (not_le.2 (EReal.bot_lt_coe _))
  lift v to ℝ using ⟨hne, hne'⟩
  rw [EReal.coe_le_coe_iff] at h1 h2'
  have hb : A ≤ 57344 * s := by
    have hc := cE_pos
    have h3 := one_le_cE
    have hA0 : 0 ≤ A := by linarith
    have : A * 1 ≤ A * (57344 * cE) := mul_le_mul_of_nonneg_left h3 hA0
    nlinarith
  have u : v * (1 / s) ≤ 57344 := by rw [mul_one_div, div_le_iff₀ hs]; linarith
  have l : -57344 ≤ v * (1 / s) := by rw [mul_one_div, le_div_iff₀ hs]; linarith
  rw [← EReal.coe_mul, max_eq_right (EReal.coe_le_coe_iff.2 l), min_eq_right (EReal.coe_le_coe_iff.2 u)]

theorem sum_mul_coe {ι : Type*} (S : Finset ι) (f : ι → EReal) {s : ℝ} (hs : 0 ≤ s) : (∑ k ∈ S, f k) * (s : EReal) = ∑ k ∈ S, f k * (s : EReal) := by
  classical
  induction S using Finset.induction_on with
  | empty => simp
  | insert a S ha ih =>
    rw [Finset.sum_insert ha, Finset.sum_insert ha, EReal.right_distrib_of_nonneg_of_ne_top (EReal.coe_nonneg.2 hs) (EReal.coe_ne_top s), ih]

/-- Dividing one factor of each product by the scale and multiplying the sum by it again changes nothing. -/
theorem cancel {n : ℕ} (v w : Fin n → EReal) {s : ℝ} (hs : 0 < s) :
    (∑ k, v k * ((1 / s : ℝ) : EReal) * w k) * (s : EReal) = ∑ k, v k * w k := by
  rw [sum_mul_coe _ _ hs.le]
  refine Finset.sum_congr rfl fun k _ => ?_
  rw [mul_right_comm (v k), mul_assoc (v k * w k), ← EReal.coe_mul, one_div_mul_cancel hs.ne', EReal.coe_one, mul_one]

/-! ## A row's largest magnitude -/

theorem row_max {n : ℕ} (hn : 0 < n) (v : Fin n → EReal) (hv : ∀ k, max (v k) (-v k) ≤ (bfMax : EReal)) :
    ∃ A : ℝ, 0 ≤ A ∧ A ≤ bfMax ∧ (Finset.univ.fold max (⊥ : EReal) fun k => max (v k) (-v k)) = (A : EReal) ∧ ∀ k, max (v k) (-v k) ≤ (A : EReal) := by
  set a := Finset.univ.fold max (⊥ : EReal) fun k => max (v k) (-v k) with ha
  have hle : ∀ k, max (v k) (-v k) ≤ a := fun k => Finset.le_fold_max _ |>.2 (Or.inr ⟨k, Finset.mem_univ _, le_rfl⟩)
  have hub : a ≤ (bfMax : EReal) := Finset.fold_max_le _ |>.2 ⟨bot_le, fun k _ => hv k⟩
  have h0 : 0 ≤ a := le_trans (by
    rcases le_total 0 (v ⟨0, hn⟩) with h | h
    · exact le_max_of_le_left h
    · exact le_max_of_le_right (EReal.neg_nonneg.2 h)) (hle ⟨0, hn⟩)
  have hne : a ≠ ⊤ := ne_top_of_le_ne_top (EReal.coe_ne_top _) hub
  have hne' : a ≠ ⊥ := fun h => by rw [h] at h0; exact absurd h0 (not_le.2 EReal.bot_lt_zero)
  refine ⟨a.toReal, EReal.toReal_nonneg h0, ?_, (EReal.coe_toReal hne hne').symm, fun k => (EReal.coe_toReal hne hne').symm ▸ hle k⟩
  exact EReal.coe_le_coe_iff.1 ((EReal.coe_toReal hne hne').symm ▸ hub)

end Cert.Dgrad

end
-- ==== Proof.PrecondFinite.lean ====
/-
  THE SECOND PRECONDITION. It says the same of the group sizes, and that every `dy` is at most the largest bf16.
-/
module

public import proofs.«01_k».proof.Pre_finite_dy_and_split
public import proofs.«01_k».proof.Proof.Precond
public import proofs.«01_k».proof.Proof.QuantMath

@[expose] public section

set_option maxRecDepth 16384

noncomputable section

namespace Cert.Dgrad

open Idealize.ShloMosaic Idealize.ShloMosaic.Routing Idealize.ShloMosaic.WordCmp

variable {F : FTy → Type} [FloatOps F]

theorem finite_split_sum [Cert.Pre_finite_dy_and_split.Facts] (a0) (x : IVec (shape1 13) 32) (a2) (a3)
    (h : Cert.Pre_finite_dy_and_split.fn (F := F) a0 x a2 a3 = fun _ => 1#1) :
    S (sizesOf x) 13 = 4096 ∧ ∀ i, cmpf .ole (Host.absf a0) (broadcast _ (FloatOps.ofBits (F := F) .bf16 0x7F7F#16)) i = 1#1 := by
  have h' := congrFun h ValueIdx.ix0
  obtain ⟨hsz, hf⟩ := andi_one h'
  obtain ⟨h01, hs⟩ := andi_one hsz
  obtain ⟨h0, h1⟩ := andi_one h01
  haveI : Subsingleton Cert.Pre_finite_dy_and_split.S_.Idx := ⟨fun a b => funext fun i => i.elim0⟩
  exact ⟨sum_of_words x _ _ (fun i => Host.reduce_andi_all _ _ _ _ _ h0 i) (fun i => Host.reduce_andi_all _ _ _ _ _ h1 i) hs,
    fun i => Host.reduce_andi_all _ _ _ _ _ hf i⟩

/-- At the ideal values: no element of `dy` is larger than the largest bf16. -/
theorem finite_le [Cert.Pre_finite_dy_and_split.Facts] (a0 : FVec Ideal (shape2 4096 7168) .bf16) (x : IVec (shape1 13) 32) (a2) (a3)
    (h : Cert.Pre_finite_dy_and_split.fn (F := Ideal) a0 x a2 a3 = fun _ => 1#1) (R : Fin 4096) (k : Fin 7168) :
    max (a0 (ValueIdx.ix2 R k)) (-a0 (ValueIdx.ix2 R k)) ≤ (bfMax : EReal) := by
  have h' := (finite_split_sum a0 x a2 a3 h).2 (ValueIdx.ix2 R k)
  rw [ValueIdx.cmpf_apply, ValueIdx.broadcast_apply] at h'
  have e : FloatOps.ofBits (F := Ideal) .bf16 0x7F7F#16 = (bfMax : EReal) := ofBits_M
  rw [e] at h'
  by_contra hn
  have : decide (max (a0 (ValueIdx.ix2 R k)) (-a0 (ValueIdx.ix2 R k)) ≤ (bfMax : EReal)) = false := decide_eq_false hn
  refine absurd (h'.symm.trans (?_ : _ = 0#1)) (by decide)
  exact congrArg BitVec.ofBool this

end Cert.Dgrad

end
-- ==== Proof.GmmRegion.lean ====
/-
  THE SECOND KERNEL REGION (grouped matrix product): what its body does to the output block it merges into, and its body obligation,
  over the valuation `V` at which the region is entered and the contents `pf` of the four prefetched tables. Window 4, the output, is
  revisited: the body reads the block and stores it again with the visit's rows replaced, so of it the proof data state a predicate
  `Rl`, which has to follow for the stored block from what the body may have found there.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.DatRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! ## The body -/

abbrev tbM0 : Memref sig .tc .smem S20 .i32 := Memref.whole main_v44
abbrev tbM1 : Memref sig .tc .smem S20 .i32 := Memref.whole main_v20
abbrev tbM2 : Memref sig .tc .smem S20 .i32 := Memref.whole main_v51
abbrev tbM3 : Memref sig .tc .smem S20 .i32 := Memref.whole main_v58

/-- A table held whole at the contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

/-- Table `k`'s word for the visit of point `i`. -/
def word1 (pf : pre1.Contents (Elt F)) (k : Fin 4) (i : grid1.Coords) : BitVec 32 :=
  match k with
  | 0 => pf.at 0 (Rect.unit (s := S20) (k1_off1 i) S1.size (k1_off1_inb i)) numel1_S1
  | 1 => pf.at 1 (Rect.unit (s := S20) (k1_off1 i) S1.size (k1_off1_inb i)) numel1_S1
  | 2 => pf.at 2 (Rect.unit (s := S20) (k1_off1 i) S1.size (k1_off1_inb i)) numel1_S1
  | 3 => pf.at 3 (Rect.unit (s := S20) (k1_off1 i) S1.size (k1_off1_inb i)) numel1_S1

abbrev r1_0 : Rect S512x7168 := Rect.unit (s := S512x7168) ![0, 0] S512x7168.size inb_S512x7168_S512x7168_0_0
abbrev r1_1 : Rect S512x128 := Rect.unit (s := S512x128) ![0, 0] S512x1.size inb_S512x128_S512x1_0_0
abbrev r1_2 : Rect S1x512x7168 := Rect.unit (s := S1x512x7168) ![0, 0, 0] S1x512x7168.size inb_S1x512x7168_S1x512x7168_0_0_0
abbrev r1_3 : Rect S1x1x512 := Rect.unit (s := S1x1x512) ![0, 0, 0] S1x1x512.size inb_S1x1x512_S1x1x512_0_0_0
abbrev r1_4 : Rect S512x512 := Rect.unit (s := S512x512) ![0, 0] S512x512.size inb_S512x512_S512x512_0_0

/-- The block the body stores over the block `y` it found: of the blocks of codes, scales, weights and weight scales, and the visit's
    tile and row bounds. -/
def merge1 (tl lo hi : BitVec 32) (x0 : Vec F S512x7168 .fp8e5m2) (x1 : Vec F S512x128 .f32) (x2 : Vec F S1x512x7168 .fp8e4m3)
    (x3 : Vec F S1x1x512 .f32) (y : Vec F S512x512 .bf16) : Vec F S512x512 .bf16 :=
  View.canon [⟨r1_4, k1_pay1 (View.ld x0 r1_0) (View.ld x2 r1_2) tl lo hi (View.ld x1 r1_1) (View.ld x3 r1_3) (View.ld y r1_4)⟩]

/-- The one store covers the block. -/
theorem cover1_4 (p0 : Vec F S512x512 .bf16) (y : S512x512.Idx) :
    ∃ pc ∈ ([⟨r1_4, p0⟩] : List (View.Piece (Elt F) S512x512 .bf16)), y ∈ pc.1.set :=
  View.cover_of_tiled [⟨r1_4, p0⟩] S512x512.size (by rfl) y

set_option maxHeartbeats 1000000 in
/-- The body's triple on whole staging memrefs, the output's found at `y`. -/
theorem sound_gmm (c : Dev nD) (E : Set ℕ) (i : grid1.Coords) (arg6 : Memref sig .tc .vmem S512x7168 .fp8e5m2) (harg6 : arg6.IsWhole) (arg7 : Memref sig .tc .vmem S512x128 .f32) (harg7 : arg7.IsWhole) (arg8 : Memref sig .tc .vmem S1x512x7168 .fp8e4m3) (harg8 : arg8.IsWhole) (arg9 : Memref sig .tc .vmem S1x1x512 .f32) (harg9 : arg9.IsWhole) (arg10 : Memref sig .tc .vmem S512x512 .bf16) (harg10 : arg10.IsWhole)
    (x0 : Vec F S512x7168 .fp8e5m2) (x1 : Vec F S512x128 .f32) (x2 : Vec F S1x512x7168 .fp8e4m3) (x3 : Vec F S1x1x512 .f32) (y : Vec F S512x512 .bf16)
    (pf : pre1.Contents (Elt F)) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare y
        ∗ tbPt c tbM0 (pf 0) ∗ tbPt c tbM1 (pf 1) ∗ tbPt c tbM2 (pf 2) ∗ tbPt c tbM3 (pf 3)
        ∗ (iprop(owns (c : Thread nD τ) arg6 fullShare x0 ∗ owns (c : Thread nD τ) arg7 fullShare x1 ∗ owns (c : Thread nD τ) arg8 fullShare x2 ∗ owns (c : Thread nD τ) arg9 fullShare x3
            ∗ owns (c : Thread nD τ) arg10 fullShare (merge1 (word1 pf 0 i) (word1 pf 2 i) (word1 pf 3 i) x0 x1 x2 x3 y)
            ∗ tbPt c tbM0 (pf 0) ∗ tbPt c tbM1 (pf 1) ∗ tbPt c tbM2 (pf 2) ∗ tbPt c tbM3 (pf 3)) -∗ K ⟨⟩))
      ⊢ wp frame (wpE (defs₀ (F := F)) Variants.none c none) E (cc1_gmm i tbM0 (Memref.isWhole_whole _) tbM1 (Memref.isWhole_whole _) tbM2 (Memref.isWhole_whole _) tbM3 (Memref.isWhole_whole _) arg6 harg6 arg7 harg7 arg8 harg8 arg9 harg9 arg10 harg10) K := by
  simp only [cc1_gmm_eq_skeleton]; unfold cc1_gmm_skel
  unfold owns
  iintro ⟨⟨%f0, %hf0, H0⟩, ⟨%f1, %hf1, H1⟩, ⟨%f2, %hf2, H2⟩, ⟨%f3, %hf3, H3⟩, ⟨%f4, %hf4, H4⟩, HT0, HT1, HT2, HT3, Hk⟩
  subst hf0; subst hf1; subst hf2; subst hf3; subst hf4
  sl_exec
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    exact View.read_writes_eq_canon _ _ _ (cover1_4 _)
  isplitl [HT0]; · iexact HT0
  isplitl [HT1]; · iexact HT1
  isplitl [HT2]; · iexact HT2
  iexact HT3

/-! ## The region's proof data -/

variable (V : Dev nD → Valuation τ sig (Elt F)) (a : (pcfg1 (F := F)).Adm)

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Proc.devRef .tc (Pipeline.arrRef spec1 w)))

/-- The output window's marker: what the body leaves there is held to a predicate instead of named. -/
def marked1 : Fin 5 → Bool := fun w => w.val == 4

/-- The proof data: the inputs' buffers keep their blocks; the tables are held whole throughout. -/
def dats1 (c : Dev nD) : Dat τ (Elt F) Unit ℕ (UR sig nD τ) ℕ (cfg1 a) c where
  A w := V c (Proc.devRef .tc (Pipeline.arrRef spec1 w))
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, h⟩ => Pipeline.Dat.unnamed (cfg := cfg1 a) ⟨4, h⟩ t
  Φ _ := iprop((∃ r, prngReg c r) ∗ Pipeline.prefHeld pre1 c (fun _ => fullShare) a.1 ∗ Pipeline.scopedRest spec1 c)
  q _ := fullShare
  owed _ := 0

theorem dats1_A (c : Dev nD) (w : Fin (cfg1 a).W) : (dats1 V a c).A w = V c (Proc.devRef .tc (Pipeline.arrRef spec1 w)) := by
  dsimp only [dats1]

theorem after1_0 (c : Dev nD) (t : Fin (cfg1 a).N) : (dats1 V a c).after 0 t = iblk1 V a c 0 t := by dsimp only [dats1]; try rfl
theorem after1_1 (c : Dev nD) (t : Fin (cfg1 a).N) : (dats1 V a c).after 1 t = iblk1 V a c 1 t := by dsimp only [dats1]; try rfl
theorem after1_2 (c : Dev nD) (t : Fin (cfg1 a).N) : (dats1 V a c).after 2 t = iblk1 V a c 2 t := by dsimp only [dats1]; try rfl
theorem after1_3 (c : Dev nD) (t : Fin (cfg1 a).N) : (dats1 V a c).after 3 t = iblk1 V a c 3 t := by dsimp only [dats1]; try rfl

/-- An input's buffer holds its block at every point. -/
theorem before1_0 (c : Dev nD) (t : Fin (cfg1 a).N) (d) : (dats1 V a c).before 0 t d = iblk1 V a c 0 t :=
  ((dats1 V a c).before_in_eq_fetched 0 rfl (fun _ => rfl) (fun _ _ _ => rfl)
      (fun t => by rw [after1_0]; unfold Dat.blockOf iblk1; rw [dats1_A]; try rfl) t d).trans
    (by unfold Dat.fetched Dat.blockOf iblk1; rw [dats1_A]; try rfl)
theorem before1_1 (c : Dev nD) (t : Fin (cfg1 a).N) (d) : (dats1 V a c).before 1 t d = iblk1 V a c 1 t :=
  ((dats1 V a c).before_in_eq_fetched 1 rfl (fun _ => rfl) (fun _ _ _ => rfl)
      (fun t => by rw [after1_1]; unfold Dat.blockOf iblk1; rw [dats1_A]; try rfl) t d).trans
    (by unfold Dat.fetched Dat.blockOf iblk1; rw [dats1_A]; try rfl)
theorem before1_2 (c : Dev nD) (t : Fin (cfg1 a).N) (d) : (dats1 V a c).before 2 t d = iblk1 V a c 2 t :=
  ((dats1 V a c).before_in_eq_fetched 2 rfl (fun _ => rfl) (fun _ _ _ => rfl)
      (fun t => by rw [after1_2]; unfold Dat.blockOf iblk1; rw [dats1_A]; try rfl) t d).trans
    (by unfold Dat.fetched Dat.blockOf iblk1; rw [dats1_A]; try rfl)
theorem before1_3 (c : Dev nD) (t : Fin (cfg1 a).N) (d) : (dats1 V a c).before 3 t d = iblk1 V a c 3 t :=
  ((dats1 V a c).before_in_eq_fetched 3 rfl (fun _ => rfl) (fun _ _ _ => rfl)
      (fun t => by rw [after1_3]; unfold Dat.blockOf iblk1; rw [dats1_A]; try rfl) t d).trans
    (by unfold Dat.fetched Dat.blockOf iblk1; rw [dats1_A]; try rfl)

/-- The four tables of the invariant, one by one. -/
theorem prefHeld1_eq (c : Dev nD) (pf : pre1.Contents (Elt F)) :
    (Pipeline.prefHeld pre1 c (fun _ => fullShare) pf : sProp 𝕄)
      = iprop(tbPt c tbM0 (pf 0) ∗ tbPt c tbM1 (pf 1) ∗ tbPt c tbM2 (pf 2) ∗ tbPt c tbM3 (pf 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The body obligation -/

/-- A predicate on the output block a point leaves. -/
abbrev Pred1 : Type := Fin (cfg1 a).N → Vec F S512x512 .bf16 → Prop

/-- The predicate, as one of every window. -/
def rel1 (R : Pred1 a) : (w : Fin (cfg1 a).W) → Fin (cfg1 a).N → (((cfg1 a).win w).block.Idx → Elt F ((cfg1 a).win w).elt) → Prop
  | ⟨4, _⟩, t, X => R t X
  | _, _, _ => True

/-- The region's relational proof data. -/
abbrev rdat1 (R : Pred1 a) (c : Dev nD) : RDat τ (Elt F) Unit ℕ (UR sig nD τ) ℕ (cfg1 a) c :=
  (dats1 V a c).toRRel marked1 (rel1 a R)

/-- What the body stores at point `t` over a block `Y`. -/
abbrev stored1 (c : Dev nD) (t : Fin (cfg1 a).N) (Y : Vec F S512x512 .bf16) : Vec F S512x512 .bf16 :=
  merge1 (word1 a.1 0 (grid1.coords t)) (word1 a.1 2 (grid1.coords t)) (word1 a.1 3 (grid1.coords t))
    (iblk1 V a c 0 t) (iblk1 V a c 1 t) (iblk1 V a c 2 t) (iblk1 V a c 3 t) Y

abbrev ms1_0 (t : Fin (cfg1 a).N) := spec1_0.stage ((cfg1 a).slots t 0)
abbrev ms1_1 (t : Fin (cfg1 a).N) := spec1_1.stage ((cfg1 a).slots t 1)
abbrev ms1_2 (t : Fin (cfg1 a).N) := spec1_2.stage ((cfg1 a).slots t 2)
abbrev ms1_3 (t : Fin (cfg1 a).N) := spec1_3.stage ((cfg1 a).slots t 3)
abbrev ms1_4 (t : Fin (cfg1 a).N) := spec1_4.stage ((cfg1 a).slots t 4)

abbrev bodyAt1 (t : Fin (cfg1 a).N) : Prog (TpuEff nD τ sig (Elt F) Λ₀ .tc) PUnit :=
  cc1_gmm (grid1.coords t) tbM0 (Memref.isWhole_whole _) tbM1 (Memref.isWhole_whole _) tbM2 (Memref.isWhole_whole _) tbM3 (Memref.isWhole_whole _)
    (ms1_0 a t) (hstage1_0 (((cfg1 a).slots t 0).cast nbuf1_0)) (ms1_1 a t) (hstage1_1 (((cfg1 a).slots t 1).cast nbuf1_1))
    (ms1_2 a t) (hstage1_2 (((cfg1 a).slots t 2).cast nbuf1_2)) (ms1_3 a t) (hstage1_3 (((cfg1 a).slots t 3).cast nbuf1_3))
    (ms1_4 a t) (hstage1_4 (((cfg1 a).slots t 4).cast nbuf1_4))

def bodyPre1 (R : Pred1 a) (c : Dev nD) (t : Fin (cfg1 a).N) : sProp 𝕄 :=
  iprop((dats1 V a c).Φ t.castSucc ∗ (dats1 V a c).owesAt () t.castSucc
    ∗ (∃ d, owns (c : Thread nD τ) (ms1_0 a t) fullShare ((dats1 V a c).before 0 t d))
    ∗ (∃ d, owns (c : Thread nD τ) (ms1_1 a t) fullShare ((dats1 V a c).before 1 t d))
    ∗ (∃ d, owns (c : Thread nD τ) (ms1_2 a t) fullShare ((dats1 V a c).before 2 t d))
    ∗ (∃ d, owns (c : Thread nD τ) (ms1_3 a t) fullShare ((dats1 V a c).before 3 t d))
    ∗ (∃ Y, ⌜(rdat1 V a R c).Finds 4 t Y⌝ ∗ owns (c : Thread nD τ) (ms1_4 a t) fullShare Y))

def bodyPost1 (R : Pred1 a) (c : Dev nD) (t : Fin (cfg1 a).N) : sProp 𝕄 :=
  iprop((dats1 V a c).Φ t.succ ∗ (dats1 V a c).owesAt () t.succ
    ∗ owns (c : Thread nD τ) (ms1_0 a t) fullShare ((dats1 V a c).after 0 t)
    ∗ owns (c : Thread nD τ) (ms1_1 a t) fullShare ((dats1 V a c).after 1 t)
    ∗ owns (c : Thread nD τ) (ms1_2 a t) fullShare ((dats1 V a c).after 2 t)
    ∗ owns (c : Thread nD τ) (ms1_3 a t) fullShare ((dats1 V a c).after 3 t)
    ∗ (∃ X, ⌜R t X⌝ ∗ owns (c : Thread nD τ) (ms1_4 a t) fullShare X))

theorem sound_body1 (R : Pred1 a) (c : Dev nD) (t : Fin (cfg1 a).N)
    (hR : ∀ Y, (rdat1 V a R c).Finds 4 t Y → R t (stored1 V a c t Y)) :
    bodyPre1 V a R c t ⊢ wp frame (wpE (defs₀ (F := F)) Variants.none c none) Set.univ (bodyAt1 a t) (fun _ => bodyPost1 V a R c t) := by
  unfold bodyPre1 bodyPost1 bodyAt1
  simp only [before1_0, before1_1, before1_2, before1_3]
  rw [show (dats1 V a c).Φ t.succ = (dats1 V a c).Φ t.castSucc from rfl,
    show (dats1 V a c).owesAt () t.succ = (dats1 V a c).owesAt () t.castSucc from rfl,
    after1_0, after1_1, after1_2, after1_3]
  rw [show (dats1 V a c).Φ t.castSucc = iprop((∃ r, prngReg c r) ∗ Pipeline.prefHeld pre1 c (fun _ => fullShare) a.1 ∗ Pipeline.scopedRest spec1 c) from rfl, prefHeld1_eq]
  iintro ⟨⟨Hp, ⟨HT0, HT1, HT2, HT3⟩, Hs⟩, Ho, ⟨%d0, H0⟩, ⟨%d1, H1⟩, ⟨%d2, H2⟩, ⟨%d3, H3⟩, ⟨%Y, %hY, H4⟩⟩
  iapply (sound_gmm c Set.univ (grid1.coords t) _ _ _ _ _ _ _ _ _ _ (iblk1 V a c 0 t) (iblk1 V a c 1 t) (iblk1 V a c 2 t) (iblk1 V a c 3 t) Y a.1 _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [Hp Hs HT0 HT1 HT2 HT3]
  · isplitl [Hp]; · iexact Hp
    isplitr [Hs]
    · isplitl [HT0]; · iexact HT0
      isplitl [HT1]; · iexact HT1
      isplitl [HT2]; · iexact HT2
      iexact HT3
    iexact Hs
  isplitl [Ho]; · iexact Ho
  isplitl [H0]; · iexact H0
  isplitl [H1]; · iexact H1
  isplitl [H2]; · iexact H2
  isplitl [H3]; · iexact H3
  iexists _; isplitr; swap; · iexact H4
  ipureintro
  exact hR Y hY

theorem defs₀_row1 (t : Fin (cfg1 a).N) :
    defs₀ (F := F) .tc (cfg1 a).body ((cfg1 a).bodyArgs t ((cfg1 a).slots t)) = bodyAt1 a t := by
  unfold defs₀; rw [Defs.onTc_tc]

/-- The body obligation, the output's predicate following at every point from what the body may find. -/
theorem body_obligation1 (R : Pred1 a) (c : Dev nD) (hR : ∀ t Y, (rdat1 V a R c).Finds 4 t Y → R t (stored1 V a c t Y)) :
    (rdat1 V a R c).BodyObligation (defs₀ (F := F)) Variants.none () Set.univ :=
  BodyObligationRel.toRRel (dats1 V a c) (fun t => by
    rw [bigSep_W1, bigSep_W1, defs₀_row1]
    exact triple_restated (sound_body1 V a R c t (hR t)) rfl .rfl fun _ => .rfl)

end Cert.KernelIdeal.Gen

end
-- ==== Proof.RowOps.lean ====
/-
  ROWS OF A MATRIX. A vector cast to a column, a column broadcast over its row, and the reductions of a matrix's rows, each read at one
  index: the maximum, the minimum, and the number of the lanes at which a comparison holds.
-/
module

public import Idealize.ShloMosaic.PureOps.Ideal.Laws
public import Idealize.ShloMosaic.Lib.ValueIdx
public import Idealize.ShloMosaic.Lib.ValueLayout
public import Idealize.ShloMosaic.Lib.WordSum

@[expose] public section

noncomputable section

namespace Cert.Dgrad

open Idealize.ShloMosaic Idealize.ShloMosaic.ValueIdx

variable {α : Type} {a b : ℕ}

theorem col_apply (x : (⟨1, ![a]⟩ : Shape).Idx → α) (h : (⟨1, ![a]⟩ : Shape).ShapeCasts ⟨2, ![a, 1]⟩) (r : Fin a) :
    shapeCast ⟨2, ![a, 1]⟩ x h (ix2 r (0 : Fin 1)) = x (ix1 r) :=
  shapeCast_apply x h _ _ (by
    rw [Shape.rowMajor_val_one, Shape.rowMajor_val_two]
    show r.val = r.val * 1 + 0
    omega)

theorem bcol_apply (v : (⟨2, ![a, 1]⟩ : Shape).Idx → α) (h : (⟨2, ![a, 1]⟩ : Shape).Broadcasts ⟨2, ![a, b]⟩) (r : Fin a) (k : Fin b) :
    broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

theorem lift_row (h : (⟨2, ![a, b]⟩ : Shape).Reduces [1] ⟨1, ![a]⟩) (r : Fin a) (k : Fin b) : h.lift (ix1 r) k = ix2 r k := by
  funext c
  refine Fin.ext ?_
  match c with
  | ⟨0, _⟩ => rfl
  | ⟨1, _⟩ => rfl

theorem row_maximum {φ : FTy} (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) fun k => src (ix2 r k) := by
  rw [Ideal.multiReduction_maximumf_single]
  exact congrArg (fun f => (Finset.univ : Finset (Fin b)).fold max (Ideal.ofBits φ acc) f) (funext fun k => congrArg src (lift_row h r k))

theorem row_minimum {φ : FTy} (src : FVec Ideal ⟨2, ![a, b]⟩ φ) (acc : BitVec φ.bits) (h : (⟨2, ![a, b]⟩ : Shape).Reduces [1] ⟨1, ![a]⟩)
    (hφ : FKind.Formats φ) (hacc : acc = FKind.minimumf.neutral φ hφ) (r : Fin a) :
    multiReduction .minimumf [1] ⟨1, ![a]⟩ src acc h hφ hacc (ix1 r)
      = (Finset.univ : Finset (Fin b)).fold min (Ideal.ofBits φ acc) fun k => src (ix2 r k) := by
  rw [multiReduction_minimumf_eq_fold, h.fold_filter_drop_single]
  exact congrArg (fun f => (Finset.univ : Finset (Fin b)).fold min (Ideal.ofBits φ acc) f) (funext fun k => congrArg src (lift_row h r k))

theorem row_count (src : IVec ⟨2, ![a, b]⟩ 32) (p : Fin b → Prop) [DecidablePred p] (h : (⟨2, ![a, b]⟩ : Shape).Reduces [1] ⟨1, ![a]⟩)
    (hacc : (0#32 : BitVec 32) = IKind.add.neutral) (r : Fin a) (hb : b < 2 ^ 32) (hp : ∀ k, (src (ix2 r k)).toNat = if p k then 1 else 0) :
    (multiReductionI .add [1] ⟨1, ![a]⟩ src 0#32 h hacc (ix1 r)).toNat = (Finset.univ.filter p).card := by
  have e : ∑ i ∈ Finset.univ.filter (fun i => h.drop i = ix1 r), (src i).toNat = (Finset.univ.filter p).card := by
    rw [h.sum_filter_drop_single (fun i => (src i).toNat) (ix1 r)]
    rw [Finset.card_filter]
    exact Finset.sum_congr rfl fun k _ => by rw [lift_row h r k]; exact hp k
  rw [WordSum.toNat_multiReductionI_add src h hacc (ix1 r) (by
    rw [e]; exact lt_of_le_of_lt (Finset.card_le_univ _) (by rw [Fintype.card_fin]; exact hb)), e]

/-! ## Pointwise operations read at an index -/

theorem scalar_ofBits {φ : FTy} (w : BitVec φ.bits) : Scalar.ofBits (F := Ideal) φ w = Ideal.ofBits φ w := rfl
theorem bitcast_apply {s : Shape} (x : IVec s 32) (i : s.Idx) : bitcastToFloat (F := Ideal) .f32 x i = Ideal.ofBits .f32 (x i) := rfl
theorem shli_apply {s : Shape} (x y : IVec s 32) (i : s.Idx) : shli x y i = IntOp.shli .vector (x i) (y i) := rfl
theorem addi_apply {s : Shape} {w : ℕ} (x y : IVec s w) (i : s.Idx) : addi x y i = x i + y i := rfl
theorem subi_apply {s : Shape} {w : ℕ} (x y : IVec s w) (i : s.Idx) : subi x y i = x i - y i := rfl
theorem iota_col (h) (r : Fin a) (k : Fin b) : iota .tc ⟨2, ![a, b]⟩ 32 [1] h (ix2 r k) = BitVec.ofNat 32 k.val := by
  simp [iota]
  rfl
theorem iota_row (h) (r : Fin a) (k : Fin b) : iota .tc ⟨2, ![a, b]⟩ 32 [0] h (ix2 r k) = BitVec.ofNat 32 r.val := by
  simp [iota]
  rfl

end Cert.Dgrad

end
-- ==== Proof.GmmPay.lean ====
/-
  WHAT THE GROUPED PRODUCT'S BODY STORES, element by element: the visit's rows hold the sum of products of codes and weights, times the row's
  scale, times the column's weight scale; the other rows keep what was found there.
-/
module

public import proofs.«01_k».proof.Proof.GmmRegion
public import proofs.«01_k».proof.Proof.RowOps
public import proofs.«01_k».proof.Proof.QuantMath
public import Idealize.ShloMosaic.Lib.MatmulPlain
public import Idealize.ShloMosaic.Lib.Pipeline.ValueKit

@[expose] public section

set_option maxRecDepth 16384

noncomputable section

namespace Cert.KernelIdeal.Gen

open Idealize.ShloMosaic Idealize.ShloMosaic.TcCoe Cert.Dgrad

theorem dot_plain : dot_S512x7168_S512x7168_S512x512_1_1_0_0_n_n = DotDims.transposedRhs 512 7168 512 := rfl

/-- A word of a small number, as a signed integer. -/
theorem toInt_small {n : ℕ} (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-- The row mask of a visit. -/
theorem mask_word {t r lo hi : ℕ} (ht : t < 8) (hr : r < 512) (hlo : lo ≤ 4096) (hhi : hi ≤ 4096) :
    IntOp.cmpi .sge (Scalar.muli (BitVec.ofNat 32 t) 512#32 + BitVec.ofNat 32 r) (BitVec.ofNat 32 lo)
      &&& IntOp.cmpi .slt (Scalar.muli (BitVec.ofNat 32 t) 512#32 + BitVec.ofNat 32 r) (BitVec.ofNat 32 hi)
    = BitVec.ofBool (decide (lo ≤ 512 * t + r ∧ 512 * t + r < hi)) := by
  have e : Scalar.muli (BitVec.ofNat 32 t) 512#32 + BitVec.ofNat 32 r = BitVec.ofNat 32 (512 * t + r) := by
    show BitVec.ofNat 32 t * BitVec.ofNat 32 512 + _ = _
    rw [← BitVec.ofNat_mul, ← BitVec.ofNat_add, mul_comm]
  rw [e]
  show BitVec.ofBool (BitVec.sle _ _) &&& BitVec.ofBool (BitVec.slt _ _) = _
  rw [BitVec.sle_eq_decide, BitVec.slt_eq_decide, toInt_small (by omega), toInt_small (by omega), toInt_small (by omega)]
  rw [(by decide : ∀ p q : Bool, BitVec.ofBool p &&& BitVec.ofBool q = BitVec.ofBool (p && q)), ← Bool.decide_and]
  exact congrArg BitVec.ofBool (decide_eq_decide.mpr (by omega))

/-- The mask at a row. -/
theorem mask_row {t lo hi : ℕ} (ht : t < 8) (hlo : lo ≤ 4096) (hhi : hi ≤ 4096) (r : Fin 512) :
    andi (cmpi .sge (addi (broadcast S512x1 (Scalar.muli (BitVec.ofNat 32 t) 512#32)) (iota .tc S512x1 32 [0] iota_S512x1_d0_w32)) (broadcast S512x1 (BitVec.ofNat 32 lo)))
      (cmpi .slt (addi (broadcast S512x1 (Scalar.muli (BitVec.ofNat 32 t) 512#32)) (iota .tc S512x1 32 [0] iota_S512x1_d0_w32)) (broadcast S512x1 (BitVec.ofNat 32 hi)))
      (ValueIdx.ix2 r 0) = BitVec.ofBool (decide (lo ≤ 512 * t + r.val ∧ 512 * t + r.val < hi)) := by
  refine Eq.trans ?_ (mask_word ht r.isLt hlo hhi)
  rw [← iota_row (a := 512) (b := 1) iota_S512x1_d0_w32 r 0]
  rfl

/-- A product of a block of codes and a block of weights, scaled. -/
def prod1 (x0 : FVec Ideal S512x7168 .fp8e5m2) (x1 : FVec Ideal S512x128 .f32) (x2 : FVec Ideal S1x512x7168 .fp8e4m3) (x3 : FVec Ideal S1x1x512 .f32)
    (r q : Fin 512) : EReal :=
  (∑ k : Fin 7168, x0 (ValueIdx.ix2 r k) * x2 (ValueIdx.ix3 0 q k)) * x1 (ValueIdx.ix2 r 0) * x3 (ValueIdx.ix3 0 0 q)

theorem merge1_apply {t lo hi : ℕ} (ht : t < 8) (hlo : lo ≤ 4096) (hhi : hi ≤ 4096) (x0 : FVec Ideal S512x7168 .fp8e5m2) (x1 : FVec Ideal S512x128 .f32)
    (x2 : FVec Ideal S1x512x7168 .fp8e4m3) (x3 : FVec Ideal S1x1x512 .f32) (y : FVec Ideal S512x512 .bf16) (r q : Fin 512) :
    (merge1 (F := Ideal) (BitVec.ofNat 32 t) (BitVec.ofNat 32 lo) (BitVec.ofNat 32 hi) x0 x1 x2 x3 y : FVec Ideal S512x512 .bf16) (ValueIdx.ix2 r q)
      = if lo ≤ 512 * t + r.val ∧ 512 * t + r.val < hi then prod1 x0 x1 x2 x3 r q else y (ValueIdx.ix2 r q) := by
  unfold merge1 r1_0 r1_2 r1_3 r1_4
  rw [View.canon_unit_zero (by decide), View.ld_unit_zero (by decide), View.ld_unit_zero (by decide), View.ld_unit_zero (by decide), View.ld_unit_zero (by decide)]
  unfold k1_pay1
  simp only [shapeCast_self, dot_plain]
  rw [ValueIdx.truncf_apply, ValueIdx.select_apply, ValueIdx.extf_apply, ValueIdx.mulf_apply, ValueIdx.mulf_apply]
  rw [show broadcastTo S512x512 _ broadcasts_S512x1_S512x512 (ValueIdx.ix2 r q) = _ from (bcol_apply _ _ r q).trans (mask_row ht hlo hhi r)]
  by_cases hm : lo ≤ 512 * t + r.val ∧ 512 * t + r.val < hi
  · rw [decide_eq_true hm, if_pos hm]
    refine (ValueIdx.select_one _ _).trans ?_
    unfold prod1
    refine congrArg₂ _ (congrArg₂ _ ?_ ?_) ?_
    · refine (Ideal.matmul_transposedRhs_apply _ _ _ _ _ _).trans ?_
      refine (congrArg₂ _ Ideal.ofBits_zero_f32 rfl).trans ((zero_add _).trans (Finset.sum_congr rfl fun k _ => ?_))
      exact congrArg _ (ValueIdx.shapeCast_1ab_ab_apply _ _ _ _)
    · refine (bcol_apply _ _ r q).trans ?_
      exact congrArg x1 (funext fun a => Fin.ext (match a with
        | ⟨0, _⟩ => by show 0 + 1 * r.val = r.val; omega
        | ⟨1, _⟩ => rfl))
    · exact (ValueIdx.broadcastTo_1b_ab_apply _ _ r q).trans (ValueIdx.shapeCast_1ab_ab_apply _ _ _ _)
  · rw [decide_eq_false hm, if_neg hm]
    exact ValueIdx.select_zero _ _

end Cert.KernelIdeal.Gen

end
-- ==== Proof.RegionRecord.lean ====
/-
  A KERNEL REGION OF A PROGRAM OF SEVERAL, from relational proof data. Between two items of `main` each core holds every unscoped
  buffer whole at some valuation, beside its generator register and owing nothing. `regionRecord` is the segment record of one region
  in those terms: entered at a valuation `W c`, left at SOME valuation that has the windows' arrays at contents the proof data allow,
  the prefetched tables and everything else as they were, and that satisfies a predicate `Good c` the certificate names.
-/
module

public import Idealize.ShloMosaic.Lib.Pipeline.RegionArraysTS
public import Idealize.ShloMosaic.Lib.Pipeline.RegionArraysF

@[expose] public section

noncomputable section

namespace Cert.Dgrad

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type}
variable {U : Type} [URA U]

local notation "𝕄" => MT nD τ sig Unit Val ℕ U ℕ

variable {Λ₀ : Idealize.SL.Sem.Labels} {P : Type} [Fintype P]
variable (pcs : P → PCfg sig Λ₀ Val) (a : (p : P) → (pcs p).Adm)
  (rdats : (p : P) → (c : Dev nD) → RDat τ Val Unit ℕ U ℕ (pin pcs a p) c)
  (defs₀ : Defs nD τ sig Val Λ₀) (𝒱₀ : Variants)
  (L : GSem nD τ sig → Finset Unit) (lv : GSem nD τ sig → Unit → ℕ) (p : P)

/-- What a core carries between items beside its buffers: its generator register, and that it owes nothing. -/
abbrev rest (c : Dev nD) : sProp 𝕄 :=
  iprop((∃ r, prngReg c r) ∗ ∃ W, owes (c : Thread nD τ) (0 : CellTallies nD τ sig Unit) W)

omit [Fintype P] in
/-- The arrays after a run of relational proof data: at some contents, each allowed by `ArrAt`. -/
theorem arraysAt_exists [∀ e, Nonempty (Val e)] {cfg : Cfg sig Λ₀} {c : Dev nD} (rd : RDat τ Val Unit ℕ U ℕ cfg c) (n : Nat) :
    (rd.arraysAt n : sProp 𝕄) ⊢ iprop(∃ A : (w : Fin cfg.W) → Buf Val ((cfg.win w).arr.view.loc (c.tc : Thread nD τ)),
      ⌜∀ w, rd.ArrAt w n (A w)⌝ ∗ rd.arrays A) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr
  · ipureintro; exact fun w => hA w (Finset.mem_univ w)
  iexact H

omit [Fintype P] in
/-- At the full share, relational proof data's arrays at contents `G` are `arrRefs` held at any valuation that has them at `G`. -/
theorem rarrays_held [∀ e, Nonempty (Val e)] (kit : PLaunchFacts (nD := nD) (τ := τ) pcs p) (c : Dev nD) (hshare : ∀ w, (rdats p c).share w = fullShare)
    (G : (w : Fin (pin pcs a p).W) → Buf Val (((pin pcs a p).win w).arr.view.loc (c.tc : Thread nD τ))) (Wc : Valuation τ sig Val)
    (hG : ∀ w, G w = Wc (Proc.devRef .tc (arrRef (pin pcs a p).spec w))) :
    ((rdats p c).arrays G : sProp 𝕄) = StableHlo.held (c.tc : Thread nD τ) (arrRefs (pcs p).spec) Wc :=
  arrays_held pcs a (fun q c => ({ A := (rdats q c).A, after := fun _ _ _ => Classical.arbitrary _, Φ := (rdats q c).Φ, q := (rdats q c).q, owed := (rdats q c).owed } :
    Dat τ Val Unit ℕ U ℕ (pin pcs a q) c)) p kit c hshare G Wc hG

/-- The segment record. -/
def regionRecord [∀ e, Nonempty (Val e)] (kit : PLaunchFacts (nD := nD) (τ := τ) pcs p)
    (hbody : ∀ c, (rdats p c).BodyObligation defs₀ 𝒱₀ () Set.univ)
    (howed : ∀ c t, (rdats p c).owed t = 0) (hrec : ∀ c, (rdats p c).recorded 0 = Set.univ)
    (hshare : ∀ c w, (rdats p c).share w = fullShare)
    (hin : ∀ c, iprop((∃ r, prngReg c r) ∗ prefHeld (pcs p).pre c (fun _ => fullShare) (a p).1 ∗ scopedRest (pin pcs a p).spec c) ⊢ (rdats p c).Φ 0)
    (hout : ∀ c, (rdats p c).Φ (Fin.last (pin pcs a p).N)
      ⊢ iprop((∃ r, prngReg c r) ∗ prefHeld (pcs p).pre c (fun _ => fullShare) (a p).1 ∗ scopedRest (pin pcs a p).spec c))
    (W : Dev nD → Valuation τ sig Val) (Good : Dev nD → Valuation τ sig Val → Prop)
    (hA : ∀ c w, (rdats p c).A w = W c (Proc.devRef .tc (arrRef (pin pcs a p).spec w)))
    (hT : ∀ c k, (a p).1 k = W c (Proc.devRef .tc ((pcs p).pre.ref k)))
    (hG : ∀ c (G : (w : Fin (pin pcs a p).W) → Buf Val (((pin pcs a p).win w).arr.view.loc (c.tc : Thread nD τ))),
      (∀ w, (rdats p c).ArrAt w (pin pcs a p).N (G w)) →
      ∃ W' : Valuation τ sig Val, Good c W' ∧ (∀ w, G w = W' (Proc.devRef .tc (arrRef (pin pcs a p).spec w)))
        ∧ ∀ b, b ∉ arrRefs (τ := τ) (pcs p).spec → W' b = W c b) :
    RDat.RegionSeg pcs a rdats () defs₀ 𝒱₀ L lv p where
  win := kit.to₀.win
  block_pos := kit.to₀.block_pos
  stage_whole := kit.to₀.stage_whole
  K := PEmpty
  osem k := k.elim
  ho := OwnSemFacts.none _
  hbody := hbody
  hwaits c := (show (levAts L lv : sProp 𝕄) ⊢ BI.emp from by iintro -; iempintro).trans
    (RDat.cellsWaits_of_owed_zero (pin pcs a) rdats () p c (howed c))
  pre c := iprop(StableHlo.held (c.tc : Thread nD τ) (ucRefs τ sig) (W c) ∗ rest c)
  post c := iprop(∃ W', ⌜Good c W'⌝ ∗ StableHlo.held (c.tc : Thread nD τ) (ucRefs τ sig) W' ∗ rest c)
  X c := iprop(∃ r, prngReg c r)
  Y c := iprop((∃ r, prngReg c r) ∗ prefHeld (pcs p).pre c (fun _ => fullShare) (a p).1)
  Z c := StableHlo.held (c.tc : Thread nD τ) ((ucRefs τ sig \ arrRefs (pcs p).spec) \ tblRefs (pcs p).pre) (W c)
  hentry c := by
    rw [ownSems0_none, rarrays_held pcs a rdats p kit c (hshare c) (rdats p c).A (W c) (hA c),
      prefHeld_held (pcs p).pre kit.pre.inj c (a p).1 (W c) (hT c),
      StableHlo.held_sub_split (c.tc : Thread nD τ) (arrRefs_sub_ucRefs (pcs p).spec kit.win.arr_unscoped) (W c),
      StableHlo.held_sub_split (c.tc : Thread nD τ) (tblRefs_sub_ucRefs_sdiff (pcs p).spec (pcs p).pre kit.pre.unscoped kit.pre.disj) (W c)]
    iintro ⟨⟨⟨Ha, Ht, Hu⟩, Hp, HO⟩, -, -⟩
    imodintro
    isplitl [Ha]; · iexact Ha
    isplitl [Ht]; · iexact Ht
    isplitl [HO]
    · unfold RDat.owesAt owesWithin RDat.bound
      rw [howed c 0, hrec c]
      icases HO with ⟨%Wd, HO⟩; iexists Wd; isplitr; · ipureintro; exact fun _ _ => Or.inl trivial
      iexact HO
    isplitl [Hp]; · iexact Hp
    iexact Hu
  hin c := hin c
  hout c := (hout c).trans (by
    rw [ownSems0_none]
    iintro ⟨Hp, Ht, Hr⟩
    isplitl [Hp Ht]; · isplitl [Hp] <;> iassumption
    isplitr; · iempintro
    iexact Hr)
  hexit c := by
    iintro ⟨Ha, HO, ⟨Hp, Ht⟩, Hu⟩
    ihave Ha := (arraysAt_exists (rdats p c) (pin pcs a p).N) $$ Ha
    icases Ha with ⟨%G, %hGG, Ha⟩
    obtain ⟨W', hgood, hW', hoff⟩ := hG c G hGG
    imodintro
    iexists W'
    isplitr; · ipureintro; exact hgood
    have hoffT : ∀ k, (a p).1 k = W' (Proc.devRef .tc ((pcs p).pre.ref k)) := fun k =>
      (hT c k).trans (hoff _ (Finset.disjoint_left.mp (tblRefs_disjoint_arrRefs (pcs p).spec (pcs p).pre kit.pre.disj)
        (Finset.mem_map.mpr ⟨_, Finset.mem_image.mpr ⟨k, Finset.mem_univ _, rfl⟩, rfl⟩))).symm
    rw [StableHlo.held_sub_split (c.tc : Thread nD τ) (arrRefs_sub_ucRefs (pcs p).spec kit.win.arr_unscoped) W',
      StableHlo.held_sub_split (c.tc : Thread nD τ) (tblRefs_sub_ucRefs_sdiff (pcs p).spec (pcs p).pre kit.pre.unscoped kit.pre.disj) W',
      StableHlo.held_congr (c.tc : Thread nD τ) (S := (ucRefs τ sig \ arrRefs (pcs p).spec) \ tblRefs (pcs p).pre) (V := W') (V' := W c)
        (fun b hb => hoff b (Finset.mem_sdiff.mp (Finset.mem_sdiff.mp hb).1).2),
      ← rarrays_held pcs a rdats p kit c (hshare c) G W' hW',
      ← prefHeld_held (pcs p).pre kit.pre.inj c (a p).1 W' hoffT]
    isplitl [Ha Ht Hu]
    · isplitl [Ha]; · iexact Ha
      isplitl [Ht]; · iexact Ht
      iexact Hu
    isplitl [Hp]; · iexact Hp
    unfold RDat.owesAt owesWithin
    rw [howed c (Fin.last _)]
    icases HO with ⟨%Wd, -, HO⟩; iexists Wd; iexact HO

end Cert.Dgrad

end
-- ==== Proof.QuantRegion.lean ====
/-
  THE FIRST KERNEL REGION (row quantiser): what it leaves, block by block, and its body obligation, over the valuation `V` at
  which the region is entered. A point reads one block of 128 rows and stores the block's codes and its rows' scales whole.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : Dev nD → Valuation τ sig (Elt F))

/-! ## The body -/

abbrev r0_0 : Rect S128x7168 := Rect.unit (s := S128x7168) ![0, 0] S128x7168.size inb_S128x7168_S128x7168_0_0
abbrev r0_1 : Rect S128x128 := Rect.unit (s := S128x128) ![0, 0] S128x128.size inb_S128x128_S128x128_0_0

/-- The block of codes the body stores for a block `x0` of rows. -/
def out0_1 (x0 : Vec F S128x7168 .bf16) : Vec F S128x7168 .fp8e5m2 :=
  View.canon [⟨r0_0, k0_pay1 (k0_pay5 (View.ld x0 r0_0)) k0_pay6⟩]

/-- The one store covers the block. -/
theorem cover0_1 (p0 : Vec F S128x7168 .fp8e5m2) (y : S128x7168.Idx) :
    ∃ pc ∈ ([⟨r0_0, p0⟩] : List (View.Piece (Elt F) S128x7168 .fp8e5m2)), y ∈ pc.1.set :=
  View.cover_of_tiled [⟨r0_0, p0⟩] S128x7168.size (by rfl) y

/-- The block of scales the body stores for a block `x0` of rows, one scale a row, along the lanes. -/
def out0_2 (x0 : Vec F S128x7168 .bf16) : Vec F S128x128 .f32 :=
  View.canon [⟨r0_1, k0_pay2 (k0_pay4 (View.ld x0 r0_0))⟩]

/-- The one store covers the block. -/
theorem cover0_2 (p0 : Vec F S128x128 .f32) (y : S128x128.Idx) :
    ∃ pc ∈ ([⟨r0_1, p0⟩] : List (View.Piece (Elt F) S128x128 .f32)), y ∈ pc.1.set :=
  View.cover_of_tiled [⟨r0_1, p0⟩] S128x128.size (by rfl) y

set_option maxHeartbeats 1000000 in
/-- The body's triple on whole staging memrefs. -/
theorem sound_quant (c : Dev nD) (E : Set ℕ) (i : grid0.Coords) (arg1 : Memref sig .tc .vmem S128x7168 .bf16) (harg1 : arg1.IsWhole) (arg2 : Memref sig .tc .vmem S128x7168 .fp8e5m2) (harg2 : arg2.IsWhole) (arg3 : Memref sig .tc .vmem S128x128 .f32) (harg3 : arg3.IsWhole)
    (x0 : Vec F S128x7168 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant i arg1 harg1 arg2 harg2 arg3 harg3) K := by
  simp only [cc0_quant_eq_skeleton]; unfold cc0_quant_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The region's proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The proof data: the input's buffer keeps its block, each output's is the body's value of it. -/
def dats0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem dats0_A (c : Dev nD) (w : Fin cfg0.W) : (dats0 V c).A w = V c (Proc.devRef .tc (Pipeline.arrRef spec0 w)) := by
  dsimp only [dats0]

theorem after0_0 (c : Dev nD) (t : Fin cfg0.N) : (dats0 V c).after 0 t = iblk0 V c 0 t := by dsimp only [dats0]
theorem after0_1 (c : Dev nD) (t : Fin cfg0.N) : (dats0 V c).after 1 t = out0_1 (iblk0 V c 0 t) := by dsimp only [dats0]
theorem after0_2 (c : Dev nD) (t : Fin cfg0.N) : (dats0 V c).after 2 t = out0_2 (iblk0 V c 0 t) := by dsimp only [dats0]

/-- The input's buffer holds its block at every point. -/
theorem before0_0 (c : Dev nD) (t : Fin cfg0.N) (d) : (dats0 V c).before 0 t d = iblk0 V c 0 t :=
  ((dats0 V c).before_in_eq_fetched 0 rfl (fun _ => rfl) (fun _ _ _ => rfl)
      (fun t => by rw [after0_0]; unfold Dat.blockOf iblk0; rw [dats0_A]; try rfl) t d).trans
    (by unfold Dat.fetched Dat.blockOf iblk0; rw [dats0_A]; try rfl)

def bodyPre0 (c : Dev nD) (t : Fin cfg0.N) : sProp 𝕄 :=
  iprop((dats0 V c).Φ t.castSucc ∗ (dats0 V c).owesAt () t.castSucc
    ∗ (∃ d, owns (c : Thread nD τ) (st0_0 t) fullShare ((dats0 V c).before 0 t d))
    ∗ (∃ d, owns (c : Thread nD τ) (st0_1 t) fullShare ((dats0 V c).before 1 t d))
    ∗ (∃ d, owns (c : Thread nD τ) (st0_2 t) fullShare ((dats0 V c).before 2 t d)))

def bodyPost0 (c : Dev nD) (t : Fin cfg0.N) : sProp 𝕄 :=
  iprop((dats0 V c).Φ t.succ ∗ (dats0 V c).owesAt () t.succ
    ∗ owns (c : Thread nD τ) (st0_0 t) fullShare ((dats0 V c).after 0 t)
    ∗ owns (c : Thread nD τ) (st0_1 t) fullShare ((dats0 V c).after 1 t)
    ∗ owns (c : Thread nD τ) (st0_2 t) fullShare ((dats0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dats0 V c).Φ t.succ = (dats0 V c).Φ t.castSucc from rfl,
    show (dats0 V c).owesAt () t.succ = (dats0 V c).owesAt () t.castSucc from rfl,
    after0_0, after0_1, after0_2]
  iintro ⟨HΦ, Ho, ⟨%d0, H0⟩, ⟨%d1, H1⟩, ⟨%d2, H2⟩⟩
  iapply (sound_quant c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

/-- The body obligation at every point. -/
theorem body_obligation0 (c : Dev nD) : BodyObligation (dats0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.Run.lean ====
/-
  THE PROGRAM'S RUN. The two kernel regions and the host arithmetic between them as one chain of segments: from any memory with zero
  counters, with the second region's tables admissible and its output block's predicate `R` kept by the body, every fair execution
  ends with the arguments as launched, every counter zero, and in the result an array that the second region's proof data allow.
-/
module

public import proofs.«01_k».proof.Proof.RegionRecord
public import proofs.«01_k».proof.Proof.QuantRegion
public import proofs.«01_k».proof.Proof.GmmRegion
public import proofs.«01_k».proof.Proof.Gen.KernelIdeal.Regions
public import Idealize.ShloMosaic.Lib.Pipeline.FrameTail

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the first region leaves -/

/-- The first region's results, as the valuations between items ask for them: its windows' arrays after the last point. -/
def outsA : Outs (F := F) := fun _ r c => Pipeline.afterRegion (dats0 (V0 m) c) (V0 m c) (Proc.devRef .tc r)

theorem outsA_codes (c : Dev nD) : outsA m 1 main_v0_0 c = (dats0 (V0 m) c).arrAt 1 cfg0.N :=
  Pipeline.afterRegion_arr (dats0 (V0 m) c) (V0 m c) winFacts0.arr_inj 1

theorem outsA_scale (c : Dev nD) : outsA m 1 main_v0_1 c = (dats0 (V0 m) c).arrAt 2 cfg0.N :=
  Pipeline.afterRegion_arr (dats0 (V0 m) c) (V0 m c) winFacts0.arr_inj 2

theorem V1_codes (c : Dev nD) : V1 m (outsA m) c (Proc.devRef .tc main_v0_0) = outsA m 1 main_v0_0 c := by
  rw [V1, Function.update_of_ne (StableHlo.devRef_ne_of_ne (by decide)), Function.update_self]

theorem V1_scale (c : Dev nD) : V1 m (outsA m) c (Proc.devRef .tc main_v0_1) = outsA m 1 main_v0_1 c := by
  rw [V1, Function.update_self]

/-- The valuation at which the second region is entered. -/
abbrev VE (c : Dev nD) : Valuation τ sig (Elt F) := V12 m (outsA m) c

/-- The four tables as the second region finds them. -/
def tbl : pre1.Contents (Elt F) := fun k => VE m (0 : Dev nD) (Proc.devRef .tc (pre1.ref k))

theorem VE_pre (c : Dev nD) (k : Fin 4) : tbl m k = VE m c (Proc.devRef .tc (pre1.ref k)) := by
  obtain rfl : c = 0 := Subsingleton.elim _ _; rfl

variable (hO : ok1 (F := F) (tbl m))

/-- The tables, admissible. -/
abbrev adm1 : (pcfg1 (F := F)).Adm := ⟨tbl m, hO⟩

abbrev adms : (p : Fin 2) → (pcfgs (F := F) p).Adm
  | ⟨0, _⟩ => cfg0.toPCfg_adm
  | ⟨1, _⟩ => adm1 m hO

/-- The two regions' relational proof data. -/
def rdats (R : Pred1 (adm1 m hO)) : (p : Fin 2) → (c : Dev nD) → RDat τ (Elt F) Unit ℕ (UR sig nD τ) ℕ (Pipeline.pin (pcfgs (F := F)) (adms m hO) p) c
  | ⟨0, _⟩, c => (dats0 (V0 m) c).toR
  | ⟨1, _⟩, c => rdat1 (VE m) (adm1 m hO) R c

/-! ## The two records -/

/-- No index on any semaphore is claimed; no level is set. -/
abbrev L₀ : GSem nD τ sig → Finset Unit := fun _ => ∅
abbrev lv₀ : GSem nD τ sig → Unit → ℕ := fun _ _ => 0

def record0 (R : Pred1 (adm1 m hO)) :
    Pipeline.RDat.RegionSeg (pcfgs (F := F)) (adms m hO) (rdats m hO R) () defs₀ Variants.none L₀ lv₀ 0 :=
  Cert.Dgrad.regionRecord (pcfgs (F := F)) (adms m hO) (rdats m hO R) defs₀ Variants.none L₀ lv₀ 0 launch0
    (hbody := fun c => (body_obligation0 (V0 m) c).loose.toR)
    (howed := fun _ _ => rfl) (hrec := fun _ => rfl)
    (hshare := fun c => (dats0 (V0 m) c).share_full fun _ => rfl)
    (hin := fun c => by
      show _ ⊢ Pipeline.ΦA spec0 c
      unfold Pipeline.ΦA
      iintro ⟨Hp, -, Hs⟩
      isplitl [Hs]; · iexact Hs
      iexact Hp)
    (hout := fun c => by
      show Pipeline.ΦA spec0 c ⊢ _
      unfold Pipeline.ΦA
      iintro ⟨Hs, Hp⟩
      isplitl [Hp]; · iexact Hp
      isplitr
      · unfold Pipeline.prefHeld
        rw [show (Finset.univ : Finset (Fin (pcfgs (F := F) 0).pre.K)) = ∅ from rfl, bigSep_empty]
        iempintro
      iexact Hs)
    (W := V0 m) (Good := fun c W' => W' = V1 m (outsA m) c)
    (hA := fun c w => dats0_A (V0 m) c w) (hT := fun _ k => k.elim0)
    (hG := fun c G hG => ⟨_, rfl, by
        have h : ∀ w, G w = (dats0 (V0 m) c).arrAt w cfg0.N := fun w => (dats0 (V0 m) c).toR_arrAt w _ _ (hG w)
        intro w
        match w with
        | ⟨0, _⟩ =>
          refine ((h 0).trans (((dats0 (V0 m) c).arrAt_in 0 rfl _).trans (dats0_A (V0 m) c 0))).trans ?_
          exact (V1_of m (outsA m) c main_arg0 (by decide)).symm
        | ⟨1, _⟩ =>
          refine ((h 1).trans (outsA_codes m c).symm).trans ?_
          exact (V1_codes m c).symm
        | ⟨2, _⟩ =>
          refine ((h 2).trans (outsA_scale m c).symm).trans ?_
          exact (V1_scale m c).symm, by
        intro b hb
        have hne : ∀ w, b ≠ Proc.devRef .tc (Pipeline.arrRef spec0 w) := fun w h =>
          hb (Finset.mem_map.mpr ⟨_, Finset.mem_image.mpr ⟨w, Finset.mem_univ _, rfl⟩, h.symm⟩)
        exact (Function.update_of_ne (hne 2) _ _).trans (Function.update_of_ne (hne 1) _ _)⟩)

/-- After the second region: some array in the result that the proof data allow, every other buffer as it was. -/
abbrev Good1 (R : Pred1 (adm1 m hO)) (c : Dev nD) (W' : Valuation τ sig (Elt F)) : Prop :=
  ∃ X : Buf (Elt F) ((c : Thread nD τ).loc main_v60), (rdat1 (VE m) (adm1 m hO) R c).ArrAt 4 grid1.N X ∧ W' = Function.update (VE m c) main_v60 X

/-- Writing the result leaves every other buffer. -/
theorem VE_upd (c : Dev nD) (X : Buf (Elt F) ((c : Thread nD τ).loc main_v60)) (r : Ref sig .tc) (h : r ≠ main_v60) :
    Function.update (VE m c) (Proc.devRef .tc main_v60) X (Proc.devRef .tc r) = VE m c (Proc.devRef .tc r) :=
  Function.update_of_ne (StableHlo.devRef_ne_of_ne h) _ _

theorem VE_upd_self (c : Dev nD) (X : Buf (Elt F) ((c : Thread nD τ).loc main_v60)) :
    Function.update (VE m c) (Proc.devRef .tc main_v60) X (Proc.devRef .tc main_v60) = X :=
  Function.update_self _ _ _

theorem arrAt1_in (R : Pred1 (adm1 m hO)) (c : Dev nD) (w : Fin (cfg1 (adm1 m hO)).W) (hw : marked1 w = false) (hio : ((cfg1 (adm1 m hO)).win w).isOut = false)
    (G) (h : (rdat1 (VE m) (adm1 m hO) R c).ArrAt w grid1.N G) : G = VE m c (Proc.devRef .tc (Pipeline.arrRef spec1 w)) := by
  have h' : (dats1 (VE m) (adm1 m hO) c).toR.ArrAt w grid1.N G :=
    ((dats1 (VE m) (adm1 m hO) c).toR.override_arrAt (by simp only [hw]) _ _).mp h
  rw [(dats1 (VE m) (adm1 m hO) c).toR_arrAt w _ _ h', (dats1 (VE m) (adm1 m hO) c).arrAt_in w hio, dats1_A]

set_option maxHeartbeats 1000000 in
def record1 (R : Pred1 (adm1 m hO)) (hR : ∀ c t Y, (rdat1 (VE m) (adm1 m hO) R c).Finds 4 t Y → R t (stored1 (VE m) (adm1 m hO) c t Y)) :
    Pipeline.RDat.RegionSeg (pcfgs (F := F)) (adms m hO) (rdats m hO R) () defs₀ Variants.none L₀ lv₀ 1 :=
  Cert.Dgrad.regionRecord (pcfgs (F := F)) (adms m hO) (rdats m hO R) defs₀ Variants.none L₀ lv₀ 1 launch1
    (hbody := fun c => body_obligation1 (VE m) (adm1 m hO) R c (hR c))
    (howed := fun _ _ => rfl) (hrec := fun _ => rfl)
    (hshare := fun c => (dats1 (VE m) (adm1 m hO) c).share_full fun _ => rfl)
    (hin := fun c => .rfl) (hout := fun c => .rfl)
    (W := VE m) (Good := Good1 m hO R)
    (hA := fun c w => dats1_A (VE m) (adm1 m hO) c w) (hT := fun c k => VE_pre m c k)
    (hG := fun c G hG => ⟨_, ⟨G 4, hG 4, rfl⟩, by
        intro w
        match w with
        | ⟨0, _⟩ => exact (arrAt1_in m hO R c 0 rfl rfl _ (hG 0)).trans (VE_upd m c _ main_v0_0 (by decide)).symm
        | ⟨1, _⟩ => exact (arrAt1_in m hO R c 1 rfl rfl _ (hG 1)).trans (VE_upd m c _ main_v0_1 (by decide)).symm
        | ⟨2, _⟩ => exact (arrAt1_in m hO R c 2 rfl rfl _ (hG 2)).trans (VE_upd m c _ main_arg2 (by decide)).symm
        | ⟨3, _⟩ => exact (arrAt1_in m hO R c 3 rfl rfl _ (hG 3)).trans (VE_upd m c _ main_v59 (by decide)).symm
        | ⟨4, _⟩ => exact (VE_upd_self m c (G 4)).symm, by
        intro b hb
        exact Function.update_of_ne (fun h => hb (Finset.mem_map.mpr ⟨_, Finset.mem_image.mpr ⟨(4 : Fin 5), Finset.mem_univ _, rfl⟩, h.symm⟩)) _ _⟩)

/-! ## The run -/

/-- What rides along between items. -/
abbrev E₀ (_ : Fin 3) (c : Dev nD) : sProp 𝕄 := Cert.Dgrad.rest c

/-- @main's items as segments. -/
abbrev rsegs (R : Pred1 (adm1 m hO)) (hR : ∀ c t Y, (rdat1 (VE m) (adm1 m hO) R c).Finds 4 t Y → R t (stored1 (VE m) (adm1 m hO) c t Y)) (_ : Dev nD) : List (Pipeline.RDat.Seg (pcfgs (F := F)) (adms m hO) (rdats m hO R) () defs₀ Variants.none L₀ lv₀) :=
  [.region (record0 m hO R), .host (seg1 m (outsA m) Variants.none L₀ lv₀ E₀), .host (seg2 m (outsA m) Variants.none L₀ lv₀ E₀), .host (seg3 m (outsA m) Variants.none L₀ lv₀ E₀), .host (seg4 m (outsA m) Variants.none L₀ lv₀ E₀),
    .host (seg5 m (outsA m) Variants.none L₀ lv₀ E₀), .host (seg6 m (outsA m) Variants.none L₀ lv₀ E₀), .host (seg7 m (outsA m) Variants.none L₀ lv₀ E₀), .host (seg8 m (outsA m) Variants.none L₀ lv₀ E₀), .host (seg9 m (outsA m) Variants.none L₀ lv₀ E₀),
    .host (seg10 m (outsA m) Variants.none L₀ lv₀ E₀), .host (seg11 m (outsA m) Variants.none L₀ lv₀ E₀), .region (record1 m hO R hR)]

/-- An argument, after the second region. -/
theorem arg_of_good (R : Pred1 (adm1 m hO)) (c : Dev nD) {W' : Valuation τ sig (Elt F)} (h : Good1 m hO R c W') :
    W' main_arg0 = m ((c.tc : Thread nD τ).loc main_arg0) ∧ W' main_arg1 = m ((c.tc : Thread nD τ).loc main_arg1)
      ∧ W' main_arg2 = m ((c.tc : Thread nD τ).loc main_arg2) ∧ W' main_arg3 = m ((c.tc : Thread nD τ).loc main_arg3) := by
  obtain ⟨X, -, rfl⟩ := h
  refine ⟨(VE_upd m c _ _ (by decide)).trans ((V13_of m (outsA m) c main_arg0 (by decide)).symm.trans (V13_main_arg0 m (outsA m) c)),
    (VE_upd m c _ _ (by decide)).trans ((V13_of m (outsA m) c main_arg1 (by decide)).symm.trans (V13_main_arg1 m (outsA m) c)),
    (VE_upd m c _ _ (by decide)).trans ((V13_of m (outsA m) c main_arg2 (by decide)).symm.trans (V13_main_arg2 m (outsA m) c)),
    (VE_upd m c _ _ (by decide)).trans ((V13_of m (outsA m) c main_arg3 (by decide)).symm.trans (V13_main_arg3 m (outsA m) c))⟩

-- the kit's implicit arguments are found by unifying its conclusion with this one, which takes unfolding plain definitions in a
-- metavariable's type
set_option backward.isDefEq.respectTransparency.types false in
set_option maxHeartbeats 1000000 in
/-- THE RUN. -/
theorem run_main (R : Pred1 (adm1 m hO)) (hR : ∀ c t Y, (rdat1 (VE m) (adm1 m hO) R c).Finds 4 t Y → R t (stored1 (VE m) (adm1 m hO) c t Y)) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ (rdat1 (VE m) (adm1 m hO) R c).ArrAt 4 grid1.N (r.2.mem ((c.tc : Thread nD τ).loc main_v60)))
      ∧ r.2.sem = fun _ => 0) := by
  refine Pipeline.RDat.θ_run_regions_kit_dev_sems (pcfgs (F := F)) (adms m hO) (rdats m hO R) () (cellOf_inj (adms m hO)) emb₁ defs₀ Variants.none L₀ lv₀ m ρ main
    (rsegs m hO R hR)
    (fun c Q => by
      rewrite [main_chain c, Pipeline.RDat.Seg.run_eq_chain,
        show (rsegs m hO R hR c).map Pipeline.RDat.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          Prog.lift (.customCall (Pipeline.entry 1) ()) ] from rfl]
      dsimp (config := { failIfUnchanged := false }) only
      exact .rfl)
    (fun c => by simp only [rsegs, Pipeline.RDat.Seg.pipes_host, Pipeline.RDat.Seg.pipes_region, Pipeline.RDat.Seg.pipes_nil]; decide)
    0 (fun _ _ => rfl) (fun _ => iprop(emp))
    (initOf (Pipeline.cells (Pipeline.pin (pcfgs (F := F)) (adms m hO)) (cellOf_inj (adms m hO))) (Pipeline.launchToks (Pipeline.pin (pcfgs (F := F)) (adms m hO)) (cellOf_inj (adms m hO))))
    (hu₀ := ?_)
    (T₀ := fun c => iprop(StableHlo.held (c : Thread nD τ) (Pipeline.ucRefs τ sig) (V0 m c) ∗ Cert.Dgrad.rest c))
    (Tₙ := fun c => iprop(∃ W', ⌜Good1 m hO R c W'⌝ ∗ StableHlo.held (c : Thread nD τ) (Pipeline.ucRefs τ sig) W'))
    (hch := fun c => ⟨.rfl, ?_, .rfl, .rfl, .rfl, .rfl, .rfl, .rfl, .rfl, .rfl, .rfl, .rfl, .rfl, ?_⟩)
    (hinit := ?_)
    (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
      ∧ (rdat1 (VE m) (adm1 m hO) R c).ArrAt 4 grid1.N (s.mem ((c.tc : Thread nD τ).loc main_v60)))
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells (Pipeline.pin (pcfgs (F := F)) (adms m hO)) (cellOf_inj (adms m hO))) (Pipeline.launchToks (Pipeline.pin (pcfgs (F := F)) (adms m hO)) (cellOf_inj (adms m hO))))) from .rfl)
      iexact Hu
    iapply (show (BI.emp : sProp 𝕄) ⊢ bigSep Finset.univ (fun _ : Dev nD => (BI.emp : sProp 𝕄)) from by rw [BI.bigSep_emp_const])
    iempintro
  · show iprop(∃ W', ⌜W' = V1 m (outsA m) c⌝ ∗ StableHlo.held (c : Thread nD τ) (Pipeline.ucRefs τ sig) W' ∗ Cert.Dgrad.rest c)
      ⊢ iprop(StableHlo.held (c : Thread nD τ) (Pipeline.ucRefs τ sig) (V1 m (outsA m) c) ∗ Cert.Dgrad.rest c)
    iintro ⟨%W', %hW, H⟩
    subst hW
    iexact H
  · show iprop(∃ W', ⌜Good1 m hO R c W'⌝ ∗ StableHlo.held (c : Thread nD τ) (Pipeline.ucRefs τ sig) W' ∗ Cert.Dgrad.rest c)
      ⊢ iprop((∃ W', ⌜Good1 m hO R c W'⌝ ∗ StableHlo.held (c : Thread nD τ) (Pipeline.ucRefs τ sig) W') ∗ ∃ W, owes (c.tc : Thread nD τ) (0 : CellTallies nD τ sig Unit) W)
    iintro ⟨%W', %hW, Hh, -, HO⟩
    isplitl [Hh]
    · iexists W'; isplitr; · ipureintro; exact hW
      iexact Hh
    iexact HO
  · refine Pipeline.initEach L₀ lv₀ fun c => ?_
    rw [show unscopedBufs c (fun b => m ((c.tc : Thread nD τ).loc b)) = StableHlo.held (c.tc : Thread nD τ) (Pipeline.ucRefs τ sig) (V0 m c) from
      Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists _; iexact HO
  · unfold StableHlo.held
    iintro ⟨⟨%W', %hW, Hh⟩, HSI⟩
    ihave Hr := (pointsTo_read_all (Pipeline.ucRefs τ sig) (fun b => ((c : Thread nD τ).1, b)) W' s') $$ [Hh HSI]
    · isplitl [Hh] <;> iassumption
    icases Hr with ⟨%h, HSI⟩
    imodintro
    isplitr
    · ipureintro
      obtain ⟨h0, h1, h2, h3⟩ := arg_of_good m hO R c hW
      refine ⟨⟨(h (Proc.devRef .tc main_arg0) (Finset.mem_filter.mpr ⟨StableHlo.devRef_mem_tcRefs main_arg0, by decide⟩)).trans h0,
        (h (Proc.devRef .tc main_arg1) (Finset.mem_filter.mpr ⟨StableHlo.devRef_mem_tcRefs main_arg1, by decide⟩)).trans h1,
        (h (Proc.devRef .tc main_arg2) (Finset.mem_filter.mpr ⟨StableHlo.devRef_mem_tcRefs main_arg2, by decide⟩)).trans h2,
        (h (Proc.devRef .tc main_arg3) (Finset.mem_filter.mpr ⟨StableHlo.devRef_mem_tcRefs main_arg3, by decide⟩)).trans h3⟩, ?_⟩
      obtain ⟨X, hX, rfl⟩ := hW
      have hv := (h (Proc.devRef .tc main_v60) (Finset.mem_filter.mpr ⟨StableHlo.devRef_mem_tcRefs main_v60, by decide⟩)).trans (Function.update_self _ _ _)
      exact hv ▸ hX
    · iexact HSI

/-- THE FRAME, from admissible tables. -/
theorem frame (hO : ok1 (F := F) (tbl m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩)
    (run_main m ρ hO (fun _ _ => True) fun _ _ _ _ => trivial)

end Cert.KernelIdeal.Gen

end
-- ==== Proof.Tables.lean ====
/-
  The tables that the second region is entered with, read as natural numbers: each operation of the host arithmetic at an index, then the
  four tables' words as `Cert.Dgrad`'s `tile`, `grp` and the prefix sums of the group sizes.
-/
module

public import proofs.«01_k».proof.Proof.TableNat
public import proofs.«01_k».proof.Proof.Gen.KernelIdeal.Regions
public import Idealize.ShloMosaic.Lib.Routing.Main
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic
open Idealize.ShloMosaic.Routing Idealize.ShloMosaic.WordCmp
open Cert.Dgrad (S nv idx grp tile)

variable {F : FTy → Type} [FloatOps F]

/-! ## What each stretch of host operations computes, from any contents -/

section Stretches
variable (W : Valuation τ sig (Elt F))

/-- `jnp.cumsum` of thirteen words. -/
abbrev cumsumW (x : IVec S13 32) : IVec S13 32 :=
  Host.reduceWindow IntOp.addi ![13] ![1] ![12] ![0] x (broadcastInDim S_ ![] bcast_S_S_ (constantI S_ 32 0#32)) reduceWindows_S13_S13_w13s1p12_0 h_S_

/-- `x[i]` for twenty indices into thirteen words. -/
abbrev takeW (x : IVec S13 32) (i : IVec S20 32) : IVec S20 32 :=
  Host.gather gather_S13_S20x1_S20_n_0_n_n_0_1_1 x (broadcastInDim S20x1 ![0] bcast_S20_S20x1_0
    (select (cmpi .slt i (broadcastInDim S20 ![] bcast_S_S20 (constantI S_ 32 0#32))) (addi i (broadcastInDim S20 ![] bcast_S_S20 (constantI S_ 32 13#32))) i))

theorem stretch0 : StableHlo.after hostOps1 W (Proc.devRef .tc main_v1) = cumsumW (W (Proc.devRef .tc main_arg1)) := by
  after_reads_simp
  simp -implicitDefEqProofs only [StableHlo.TRef.toBuf, StableHlo.TRef.ofBuf, cast_cast, cast_eq]

theorem stretch1 : StableHlo.after hostOps1_1 W (Proc.devRef .tc main_v2) = subi (W (Proc.devRef .tc main_v1) : IVec S13 32) (W (Proc.devRef .tc main_arg1)) := by
  after_reads_simp

theorem stretch1_c : StableHlo.after hostOps1_1 W (Proc.devRef .tc main_c) = constantI S_ 32 512#32 := by
  after_reads_simp

theorem stretch2 : StableHlo.after hostOps1_2 W (Proc.devRef .tc main_v3) = pyDiv bcast_S_S13 (W (Proc.devRef .tc main_v2)) (W (Proc.devRef .tc main_c)) := by
  after_reads_simp
  simp -implicitDefEqProofs only [StableHlo.TRef.toBuf, StableHlo.TRef.ofBuf, cast_cast, cast_eq]
  rfl

theorem stretch3 : StableHlo.after hostOps1_3 W (Proc.devRef .tc main_v5)
    = cmpi .sgt (W (Proc.devRef .tc main_arg1) : IVec S13 32) (broadcastInDim S13 ![] bcast_S_S13 (constantI S_ 32 0#32)) := by
  after_reads_simp

theorem stretch3_v9 : StableHlo.after hostOps1_3 W (Proc.devRef .tc main_v9)
    = subi (addi (W (Proc.devRef .tc main_v1) : IVec S13 32) (broadcastInDim S13 ![] bcast_S_S13 (constantI S_ 32 512#32)))
        (broadcastInDim S13 ![] bcast_S_S13 (constantI S_ 32 1#32)) := by
  after_reads_simp

theorem stretch3_c : StableHlo.after hostOps1_3 W (Proc.devRef .tc main_c_3) = constantI S_ 32 512#32 := by
  after_reads_simp

theorem stretch4 : StableHlo.after hostOps1_4 W (Proc.devRef .tc main_v10) = pyDiv bcast_S_S13 (W (Proc.devRef .tc main_v9)) (W (Proc.devRef .tc main_c_3)) := by
  after_reads_simp
  simp -implicitDefEqProofs only [StableHlo.TRef.toBuf, StableHlo.TRef.ofBuf, cast_cast, cast_eq]
  rfl

theorem stretch5 : StableHlo.after hostOps1_5 W (Proc.devRef .tc main_v11) = subi (W (Proc.devRef .tc main_v10) : IVec S13 32) (W (Proc.devRef .tc main_v3)) := by
  after_reads_simp

theorem stretch5_c : StableHlo.after hostOps1_5 W (Proc.devRef .tc main_c_4) = constantI S_ 32 0#32 := by
  after_reads_simp

theorem stretch6 : StableHlo.after hostOps1_6 W (Proc.devRef .tc main_v12)
    = select (W (Proc.devRef .tc main_v5) : IVec S13 1) (W (Proc.devRef .tc main_v11) : IVec S13 32) (broadcastInDim S13 ![] bcast_S_S13 (W (Proc.devRef .tc main_c_4) : IVec S_ 32)) := by
  after_reads_simp
  simp -implicitDefEqProofs only [StableHlo.TRef.toBuf, StableHlo.TRef.ofBuf, cast_cast, cast_eq]
  rfl

theorem stretch7 : StableHlo.after hostOps1_7 W (Proc.devRef .tc main_v13) = cumsumW (W (Proc.devRef .tc main_v12)) := by
  after_reads_simp
  simp -implicitDefEqProofs only [StableHlo.TRef.toBuf, StableHlo.TRef.ofBuf, cast_cast, cast_eq]

theorem stretch8 : StableHlo.after hostOps1_8 W (Proc.devRef .tc main_v19)
    = minsi (iotaInDim S20 32 0) (broadcastInDim S20 ![] bcast_S_S20
        (subi (shapeCast S_ (extractStridedSlice S1 ![12] (W (Proc.devRef .tc main_v13) : IVec S13 32) slices_S13_S1_12) shapeCasts_S1_S_) (constantI S_ 32 1#32))) := by
  after_reads_simp
  rfl

theorem stretch9 : StableHlo.after hostOps1_9 W (Proc.devRef .tc main_v20)
    = Host.reduce IntOp.addi (extui 32 (cmpi .sle
        (broadcastInDim S13x20 ![0, 1] bcast_S13x1_S13x20_0_1 (broadcastInDim S13x1 ![0] bcast_S13_S13x1_0 (W (Proc.devRef .tc main_v13) : IVec S13 32)))
        (broadcastInDim S13x20 ![0, 1] bcast_S1x20_S13x20_0_1 (broadcastInDim S1x20 ![1] bcast_S20_S1x20_1 (W (Proc.devRef .tc main_v19) : IVec S20 32)))) natLt_1_32)
        (constantI S_ 32 0#32) reducesTo_S13x20_S20_d0 h_S_ := by
  after_reads_simp
  simp -implicitDefEqProofs only [StableHlo.TRef.toBuf, StableHlo.TRef.ofBuf, cast_cast, cast_eq]

theorem stretch10_tile : StableHlo.after hostOps1_10 W (Proc.devRef .tc main_v44)
    = subi (addi (takeW (W (Proc.devRef .tc main_v3)) (W (Proc.devRef .tc main_v20))) (W (Proc.devRef .tc main_v19)))
        (subi (takeW (W (Proc.devRef .tc main_v13)) (W (Proc.devRef .tc main_v20))) (takeW (W (Proc.devRef .tc main_v12)) (W (Proc.devRef .tc main_v20)))) := by
  after_reads_simp

theorem stretch10_lo : StableHlo.after hostOps1_10 W (Proc.devRef .tc main_v51) = takeW (W (Proc.devRef .tc main_v2)) (W (Proc.devRef .tc main_v20)) := by
  after_reads_simp

theorem stretch10_hi : StableHlo.after hostOps1_10 W (Proc.devRef .tc main_v58) = takeW (W (Proc.devRef .tc main_v1)) (W (Proc.devRef .tc main_v20)) := by
  after_reads_simp

theorem stretch10_ws : StableHlo.after hostOps1_10 W (Proc.devRef .tc main_v59)
    = shapeCast S13x1x2048 (W (Proc.devRef .tc main_arg3) : Vec F S13x2048 .f32) shapeCasts_S13x2048_S13x1x2048 := by
  after_reads_simp
  rfl

end Stretches

/-! ## The tables' words -/

section Words
variable (m : (ℓ : Loc nD τ sig) → Buf (Elt F) ℓ) (outs : Outs (F := F)) (c : Dev nD)

/-- `x` holds the numbers `f 0 … f (n - 1)`. -/
abbrev Holds {n : Nat} (x : IVec (shape1 n) 32) (f : ℕ → ℕ) : Prop := ∀ i : Fin n, x (ValueIdx.ix1 i) = BitVec.ofNat 32 (f i.val)

theorem cumsumW_holds {x : IVec S13 32} {f : ℕ → ℕ} (hx : Holds x f) : Holds (cumsumW x) fun k => S f (k + 1) := fun i =>
  cumsum1 (N := 13) (Nm1 := 12) rfl x f hx _ rfl _ _ i

theorem takeW_holds {x : IVec S13 32} {f : ℕ → ℕ} (hx : Holds x f) {i : IVec S20 32} {e : ℕ → ℕ} (hi : Holds i e) (he : ∀ j, e j < 13) :
    Holds (takeW x i) fun j => f (e j) := fun j => by
  refine (gather_take1 gather_S13_S20x1_S20_n_0_n_n_0_1_1 rfl rfl rfl rfl x _ j ⟨e j, he j⟩ ?_ (by decide)).trans (hx ⟨e j, he j⟩)
  rw [bcCol, select_at, cmpi_at, bc0, hi j, constantI_at, show (0#32 : BitVec 32) = BitVec.ofNat 32 0 from rfl,
    cmpi_slt_ofNat (w := 32) (by have := he j; omega) (by decide), select_decide, if_neg (Nat.not_lt_zero _)]

theorem subi_holds {n : Nat} {x y : IVec (shape1 n) 32} {f h : ℕ → ℕ} (hx : Holds x f) (hy : Holds y h) (hle : ∀ i < n, h i ≤ f i) :
    Holds (subi x y) fun i => f i - h i := fun i => by
  rw [subi_ap, hx i, hy i, ofNat32_sub (hle i i.isLt)]

theorem addi_holds {n : Nat} {x y : IVec (shape1 n) 32} {f h : ℕ → ℕ} (hx : Holds x f) (hy : Holds y h) :
    Holds (addi x y) fun i => f i + h i := fun i => by
  rw [addi_ap, hx i, hy i, BitVec.ofNat_add]

theorem div512_holds {x : IVec S13 32} {d : IVec S_ 32} {f : ℕ → ℕ} (hx : Holds x f) (hd : d ValueIdx.ix0 = 512#32) (hf : ∀ i < 13, f i < 2 ^ 31) :
    Holds (pyDiv bcast_S_S13 x d) fun i => f i / 512 := fun i =>
  pyDiv_ap bcast_S_S13 x d (ValueIdx.ix1 i) (hx i) hd (hf i i.isLt) (by decide) (by decide)

/-- The group sizes as the program is given them, as numbers. -/
def sizes (k : ℕ) : ℕ := if h : k < 13 then (m ((c.tc : Thread nD τ).loc main_arg1) (ValueIdx.ix1 (⟨k, h⟩ : Fin 13)) : BitVec 32).toNat else 0

theorem sizes_holds : Holds (m ((c.tc : Thread nD τ).loc main_arg1) : IVec S13 32) (sizes m c) := fun i => by
  unfold sizes
  rw [dif_pos i.isLt]
  exact (BitVec.ofNat_toNat 32 _).symm ▸ (BitVec.setWidth_eq _).symm

variable (hg : S (sizes m c) 13 = 4096)

theorem V_arg1 : V3 m outs c main_arg1 = m ((c.tc : Thread nD τ).loc main_arg1) := by
  rw [V3_of m outs c main_arg1 (by decide), V2_of m outs c main_arg1 (by decide), V1_of m outs c main_arg1 (by decide)]

/-- The groups' ends. -/
theorem holds_v1 : Holds (V2 m outs c main_v1 : IVec S13 32) fun k => S (sizes m c) (k + 1) := by
  rw [show V2 m outs c main_v1 = cumsumW (V1 m outs c main_arg1) from stretch0 (V1 m outs c), V1_of m outs c main_arg1 (by decide)]
  exact cumsumW_holds (sizes_holds m c)

/-- The groups' first rows. -/
theorem holds_v2 : Holds (V3 m outs c main_v2 : IVec S13 32) fun k => S (sizes m c) k := by
  rw [show V3 m outs c main_v2 = subi (V2 m outs c main_v1 : IVec S13 32) (V2 m outs c main_arg1) from stretch1 (V2 m outs c),
    V2_of m outs c main_arg1 (by decide), V1_of m outs c main_arg1 (by decide)]
  intro i
  refine (subi_holds (holds_v1 m outs c) (sizes_holds m c) (fun i _ => ?_) i).trans ?_
  · rw [Cert.Dgrad.S_succ]; omega
  · show BitVec.ofNat 32 (S (sizes m c) (i.val + 1) - sizes m c i.val) = _
    rw [Cert.Dgrad.S_succ, Nat.add_sub_cancel]

include hg in
theorem S_le {k : ℕ} (h : k ≤ 13) : S (sizes m c) k ≤ 4096 := (Cert.Dgrad.S_mono _ h).trans hg.le

include hg in
/-- The groups' first tiles. -/
theorem holds_v3 : Holds (V4 m outs c main_v3 : IVec S13 32) fun k => S (sizes m c) k / 512 := by
  rw [show V4 m outs c main_v3 = pyDiv bcast_S_S13 (V3 m outs c main_v2) (V3 m outs c main_c) from stretch2 (V3 m outs c)]
  refine div512_holds (holds_v2 m outs c) ?_ fun i hi => by have := S_le m c hg (show i ≤ 13 by omega); omega
  rw [show V3 m outs c main_c = constantI S_ 32 512#32 from stretch1_c (V2 m outs c)]
  rfl

include hg in
/-- One past the groups' last tiles. -/
theorem holds_v10 : Holds (V6 m outs c main_v10 : IVec S13 32) fun k => (S (sizes m c) (k + 1) + 511) / 512 := by
  rw [show V6 m outs c main_v10 = pyDiv bcast_S_S13 (V5 m outs c main_v9) (V5 m outs c main_c_3) from stretch4 (V5 m outs c)]
  refine div512_holds ?_ ?_ fun i hi => by have := S_le m c hg (show i + 1 ≤ 13 by omega); omega
  · rw [show V5 m outs c main_v9 = _ from stretch3_v9 (V4 m outs c), V4_of m outs c main_v1 (by decide), V3_of m outs c main_v1 (by decide)]
    intro i
    rw [subi_ap, addi_ap, bc0, bc0, constantI_at, constantI_at, holds_v1 m outs c i,
      show (512#32 : BitVec 32) = BitVec.ofNat 32 512 from rfl, show (1#32 : BitVec 32) = BitVec.ofNat 32 1 from rfl, ← BitVec.ofNat_add, ofNat32_sub (by omega)]
    rfl
  · rw [show V5 m outs c main_c_3 = constantI S_ 32 512#32 from stretch3_c (V4 m outs c)]
    rfl

include hg in
/-- The groups' numbers of visits. -/
theorem holds_v12 : Holds (V8 m outs c main_v12 : IVec S13 32) (nv (sizes m c)) := by
  rw [show V8 m outs c main_v12 = _ from stretch6 (V7 m outs c),
    show V7 m outs c main_v11 = subi (V6 m outs c main_v10 : IVec S13 32) (V6 m outs c main_v3) from stretch5 (V6 m outs c),
    show V7 m outs c main_c_4 = constantI S_ 32 0#32 from stretch5_c (V6 m outs c),
    V7_of m outs c main_v5 (by decide), V6_of m outs c main_v5 (by decide), show V5 m outs c main_v5 = _ from stretch3 (V4 m outs c),
    V6_of m outs c main_v3 (by decide), V5_of m outs c main_v3 (by decide), V4_of m outs c main_arg1 (by decide), V_arg1]
  intro i
  have hi := i.isLt
  have hs := Cert.Dgrad.S_succ (sizes m c) i
  have hb := S_le m c hg (show i.val + 1 ≤ 13 by omega)
  have hd := subi_holds (holds_v10 m outs c hg) (holds_v3 m outs c hg) (fun i _ => by have := Cert.Dgrad.S_succ (sizes m c) i; omega) i
  rw [select_at, cmpi_at, bc0, constantI_at, sizes_holds m c i, hd, show (0#32 : BitVec 32) = BitVec.ofNat 32 0 from rfl,
    cmpi_sgt_ofNat (w := 32) (by omega) (by decide), select_decide]
  unfold nv
  split <;> rfl

include hg in
/-- The visits up to each group's end. -/
theorem holds_v13 : Holds (V9 m outs c main_v13 : IVec S13 32) fun k => S (nv (sizes m c)) (k + 1) := by
  rw [show V9 m outs c main_v13 = cumsumW (V8 m outs c main_v12) from stretch7 (V8 m outs c)]
  exact cumsumW_holds (holds_v12 m outs c hg)

include hg in
/-- The visit each entry lists. -/
theorem holds_v19 : Holds (V10 m outs c main_v19 : IVec S20 32) (idx (sizes m c)) := by
  rw [show V10 m outs c main_v19 = _ from stretch8 (V9 m outs c)]
  intro i
  have hpos := Cert.Dgrad.visits_pos hg
  have hle := Cert.Dgrad.visits_le hg
  have hi := i.isLt
  have e : (shapeCast S_ (extractStridedSlice S1 ![12] (V9 m outs c main_v13 : IVec S13 32) slices_S13_S1_12) shapeCasts_S1_S_ : IVec S_ 32) ValueIdx.ix0
      = BitVec.ofNat 32 (S (nv (sizes m c)) 13) := by
    refine Eq.trans ?_ (holds_v13 m outs c hg (12 : Fin 13))
    refine (shapeCast_apply _ shapeCasts_S1_S_ ValueIdx.ix0 (ValueIdx.ix1 (0 : Fin 1)) (by decide)).trans ?_
    exact slice1 12 _ slices_S13_S1_12 (0 : Fin 1) (by decide)
  rw [minsi_apply, bc0, subi_ap, e, constantI_at, iota1_ap, show (1#32 : BitVec 32) = BitVec.ofNat 32 1 from rfl, ofNat32_sub (by omega)]
  unfold IntOp.minsi
  rw [slt_ofNat32 (by omega) (by omega)]
  unfold idx
  split <;> rename_i h <;> simp only [decide_eq_true_eq] at h <;> congr 1 <;> omega

/-- `jnp.searchsorted(x, y, side="right")` by comparison with every entry of `x`. -/
abbrev searchW (x : IVec S13 32) (y : IVec S20 32) : IVec S20 32 :=
  Host.reduce IntOp.addi (extui 32 (cmpi .sle
    (broadcastInDim S13x20 ![0, 1] bcast_S13x1_S13x20_0_1 (broadcastInDim S13x1 ![0] bcast_S13_S13x1_0 x))
    (broadcastInDim S13x20 ![0, 1] bcast_S1x20_S13x20_0_1 (broadcastInDim S1x20 ![1] bcast_S20_S1x20_1 y))) natLt_1_32)
    (constantI S_ 32 0#32) reducesTo_S13x20_S20_d0 h_S_

theorem searchW_holds {x : IVec S13 32} {y : IVec S20 32} {f e : ℕ → ℕ} (hx : Holds x f) (hy : Holds y e)
    (hf : ∀ k < 13, f k < 2 ^ 31) (he : ∀ j < 20, e j < 2 ^ 31) : Holds (searchW x y) fun j => Nat.count (fun k => f k ≤ e j) 13 := fun q => by
  refine BitVec.eq_of_toNat_eq ?_
  refine (StableHlo.Predicate.toNat_reduce_count_rows (n := 13) (m := 20) (by decide) _ natLt_1_32 reducesTo_S13x20_S20_d0 h_S_ (ValueIdx.ix1 q)).trans ?_
  rw [BitVec.toNat_ofNat, Nat.mod_eq_of_lt (lt_of_le_of_lt (Nat.count_le _) (by decide)), ← card_filter_fin 13]
  refine congrArg Finset.card (Finset.filter_congr fun p _ => ?_)
  have e1 : broadcastInDim S13x20 ![0, 1] bcast_S13x1_S13x20_0_1 (broadcastInDim S13x1 ![0] bcast_S13_S13x1_0 x) (ValueIdx.ix2 p q) = BitVec.ofNat 32 (f p) :=
    (bcRows bcast_S13_S13x1_0 bcast_S13x1_S13x20_0_1 x p q).trans (hx p)
  have e2 : broadcastInDim S13x20 ![0, 1] bcast_S1x20_S13x20_0_1 (broadcastInDim S1x20 ![1] bcast_S20_S1x20_1 y) (ValueIdx.ix2 p q) = BitVec.ofNat 32 (e q) :=
    (bcCols bcast_S20_S1x20_1 bcast_S1x20_S13x20_0_1 y p q).trans (hy q)
  rw [show (ValueIdx.ix1 q : S20.Idx) 0 = q from rfl, ij_eq_ix2, cmpi_at, e1, e2]
  exact cmpi_sle_ofNat_eq_one_iff (w := 32) (hf p p.isLt) (he q q.isLt)

include hg in
/-- The group of each entry's visit. -/
theorem holds_v20 : Holds (V11 m outs c main_v20 : IVec S20 32) (grp (sizes m c)) := by
  rw [show V11 m outs c main_v20 = searchW (V10 m outs c main_v13) (V10 m outs c main_v19) from stretch9 (V10 m outs c), V10_of m outs c main_v13 (by decide)]
  have hle := Cert.Dgrad.visits_le hg
  exact searchW_holds (holds_v13 m outs c hg) (holds_v19 m outs c hg)
    (fun k hk => by have := Cert.Dgrad.S_mono (nv (sizes m c)) (show k + 1 ≤ 13 by omega); omega) fun j _ => by unfold idx; omega

include hg in
theorem holds_v20_end : Holds (V12 m outs c main_v20 : IVec S20 32) (grp (sizes m c)) := by
  rw [V12_of m outs c main_v20 (by decide)]
  exact holds_v20 m outs c hg

include hg in
/-- The tile of each entry's visit. -/
theorem holds_v44 : Holds (V12 m outs c main_v44 : IVec S20 32) (tile (sizes m c)) := by
  have hg' := fun j => Cert.Dgrad.grp_lt hg j
  rw [show V12 m outs c main_v44 = _ from stretch10_tile (V11 m outs c),
    V11_of m outs c main_v3 (by decide), V10_of m outs c main_v3 (by decide), V9_of m outs c main_v3 (by decide), V8_of m outs c main_v3 (by decide),
    V7_of m outs c main_v3 (by decide), V6_of m outs c main_v3 (by decide), V5_of m outs c main_v3 (by decide),
    V11_of m outs c main_v19 (by decide), V11_of m outs c main_v13 (by decide), V10_of m outs c main_v13 (by decide),
    V11_of m outs c main_v12 (by decide), V10_of m outs c main_v12 (by decide), V9_of m outs c main_v12 (by decide)]
  have h20 := holds_v20 m outs c hg
  intro j
  refine (subi_holds (addi_holds (takeW_holds (holds_v3 m outs c hg) h20 hg') (holds_v19 m outs c hg))
    (subi_holds (takeW_holds (holds_v13 m outs c hg) h20 hg') (takeW_holds (holds_v12 m outs c hg) h20 hg') fun j _ => ?_) (fun j _ => ?_) j).trans ?_
  · rw [Cert.Dgrad.S_succ]; omega
  · have := (Cert.Dgrad.grp_spec hg j).2.1
    rw [Cert.Dgrad.S_succ]; omega
  · unfold tile
    show BitVec.ofNat 32 (S (sizes m c) (grp (sizes m c) j) / 512 + idx (sizes m c) j - (S (nv (sizes m c)) (grp (sizes m c) j + 1) - nv (sizes m c) (grp (sizes m c) j))) = _
    rw [Cert.Dgrad.S_succ, Nat.add_sub_cancel]

include hg in
/-- The first row of each entry's group. -/
theorem holds_v51 : Holds (V12 m outs c main_v51 : IVec S20 32) fun j => S (sizes m c) (grp (sizes m c) j) := by
  rw [show V12 m outs c main_v51 = _ from stretch10_lo (V11 m outs c),
    V11_of m outs c main_v2 (by decide), V10_of m outs c main_v2 (by decide), V9_of m outs c main_v2 (by decide), V8_of m outs c main_v2 (by decide),
    V7_of m outs c main_v2 (by decide), V6_of m outs c main_v2 (by decide), V5_of m outs c main_v2 (by decide), V4_of m outs c main_v2 (by decide)]
  exact takeW_holds (holds_v2 m outs c) (holds_v20 m outs c hg) fun j => Cert.Dgrad.grp_lt hg j

include hg in
/-- One past the last row of each entry's group. -/
theorem holds_v58 : Holds (V12 m outs c main_v58 : IVec S20 32) fun j => S (sizes m c) (grp (sizes m c) j + 1) := by
  rw [show V12 m outs c main_v58 = _ from stretch10_hi (V11 m outs c),
    V11_of m outs c main_v1 (by decide), V10_of m outs c main_v1 (by decide), V9_of m outs c main_v1 (by decide), V8_of m outs c main_v1 (by decide),
    V7_of m outs c main_v1 (by decide), V6_of m outs c main_v1 (by decide), V5_of m outs c main_v1 (by decide), V4_of m outs c main_v1 (by decide),
    V3_of m outs c main_v1 (by decide)]
  exact takeW_holds (holds_v1 m outs c) (holds_v20 m outs c hg) fun j => Cert.Dgrad.grp_lt hg j

end Words

end Cert.KernelIdeal.Gen

end
-- ==== Proof.Words.lean ====
/-
  THE TABLES AS THE SECOND REGION READS THEM: each word of the four tables as a number, and that every block they name lies in its array.
-/
module

public import proofs.«01_k».proof.Proof.Tables
public import proofs.«01_k».proof.Proof.Run

@[expose] public section

set_option maxRecDepth 16384

noncomputable section

namespace Cert.KernelIdeal.Gen

open Idealize.ShloMosaic Idealize.ShloMosaic.TcCoe Idealize.ShloMosaic.Tactic
open Cert.Dgrad (S nv idx grp tile)

variable {F : FTy → Type} [FloatOps F]

theorem off1_val (i : grid1.Coords) : k1_off1 i 0 = (i 1).val :=
  (by decide : ∀ j : Fin 20, (Scalar.indexCast (BitVec.ofNat 32 j.val)).toNat = j.val) (i 1)

/-- The one element of the unit rectangle at a visit is that visit's. -/
theorem emb_off1 (i : grid1.Coords) :
    ((Rect.unit (s := S20) (k1_off1 i) S1.size (k1_off1_inb i)).emb (Shape.Idx.first (numel1_S1.symm ▸ Nat.one_pos)) : S20.Idx) = ValueIdx.ix1 (i 1 : Fin 20) := by
  funext a
  obtain rfl : a = 0 := Subsingleton.elim _ _
  refine Fin.ext ?_
  show k1_off1 i 0 + 1 * (Shape.Idx.first (s := S1) _ 0).val = (i 1).val
  rw [off1_val]
  have : (Shape.Idx.first (s := S1) (numel1_S1.symm ▸ Nat.one_pos) 0).val < 1 := (Shape.Idx.first (s := S1) _ 0).isLt
  omega

section
variable (m : (ℓ : Loc nD τ sig) → Buf (Elt F) ℓ) (hg : S (sizes m 0) 13 = 4096)

include hg in
theorem word_tile (i : grid1.Coords) : word1 (tbl m) 0 i = BitVec.ofNat 32 (tile (sizes m 0) (i 1).val) :=
  (congrArg (tbl m 0) (emb_off1 i)).trans (holds_v44 m (outsA m) 0 hg (i 1 : Fin 20))

include hg in
theorem word_grp (i : grid1.Coords) : word1 (tbl m) 1 i = BitVec.ofNat 32 (grp (sizes m 0) (i 1).val) :=
  (congrArg (tbl m 1) (emb_off1 i)).trans (holds_v20_end m (outsA m) 0 hg (i 1 : Fin 20))

include hg in
theorem word_lo (i : grid1.Coords) : word1 (tbl m) 2 i = BitVec.ofNat 32 (S (sizes m 0) (grp (sizes m 0) (i 1).val)) :=
  (congrArg (tbl m 2) (emb_off1 i)).trans (holds_v51 m (outsA m) 0 hg (i 1 : Fin 20))

include hg in
theorem word_hi (i : grid1.Coords) : word1 (tbl m) 3 i = BitVec.ofNat 32 (S (sizes m 0) (grp (sizes m 0) (i 1).val + 1)) :=
  (congrArg (tbl m 3) (emb_off1 i)).trans (holds_v58 m (outsA m) 0 hg (i 1 : Fin 20))

include hg in
theorem word_tile_lt (i : grid1.Coords) : (word1 (tbl m) 0 i).toNat < 8 := by
  rw [word_tile m hg, BitVec.toNat_ofNat]
  exact lt_of_le_of_lt (Nat.mod_le _ _) (Cert.Dgrad.tile_lt hg _)

include hg in
theorem word_grp_lt (i : grid1.Coords) : (word1 (tbl m) 1 i).toNat < 13 := by
  rw [word_grp m hg, BitVec.toNat_ofNat]
  exact lt_of_le_of_lt (Nat.mod_le _ _) (Cert.Dgrad.grp_lt hg _)

end

/-! ## Blocks inside their arrays -/

theorem ok_codes : ∀ t : Fin 8, ∃ h : (∀ a, ((![t.val, 0] : Fin 2 → ℕ) a + 1) * S512x7168.size a ≤ S4096x7168.size a),
    EltTy.bits .fp8e5m2 = 32 ∨ (Rect.block (s := S4096x7168) S512x7168.size (![t.val, 0] : Fin 2 → ℕ) h).WholeWords (EltTy.packing .fp8e5m2) := by decide +kernel
theorem ok_scale : ∀ t : Fin 8, ∃ h : (∀ a, ((![t.val, 0] : Fin 2 → ℕ) a + 1) * S512x128.size a ≤ S4096x128.size a),
    EltTy.bits .f32 = 32 ∨ (Rect.block (s := S4096x128) S512x128.size (![t.val, 0] : Fin 2 → ℕ) h).WholeWords (EltTy.packing .f32) := by decide +kernel
theorem ok_w : ∀ (e : Fin 13) (n : Fin 4), ∃ h : (∀ a, ((![e.val, (BitVec.ofNat 32 n.val).toNat, 0] : Fin 3 → ℕ) a + 1) * S1x512x7168.size a ≤ S13x2048x7168.size a),
    EltTy.bits .fp8e4m3 = 32 ∨ (Rect.block (s := S13x2048x7168) S1x512x7168.size (![e.val, (BitVec.ofNat 32 n.val).toNat, 0] : Fin 3 → ℕ) h).WholeWords (EltTy.packing .fp8e4m3) := by decide +kernel
theorem ok_ws : ∀ (e : Fin 13) (n : Fin 4), ∃ h : (∀ a, ((![e.val, 0, (BitVec.ofNat 32 n.val).toNat] : Fin 3 → ℕ) a + 1) * S1x1x512.size a ≤ S13x1x2048.size a),
    EltTy.bits .f32 = 32 ∨ (Rect.block (s := S13x1x2048) S1x1x512.size (![e.val, 0, (BitVec.ofNat 32 n.val).toNat] : Fin 3 → ℕ) h).WholeWords (EltTy.packing .f32) := by decide +kernel
theorem ok_out : ∀ (t : Fin 8) (n : Fin 4), ∃ h : (∀ a, ((![t.val, (BitVec.ofNat 32 n.val).toNat] : Fin 2 → ℕ) a + 1) * S512x512.size a ≤ S4096x2048.size a),
    EltTy.bits .bf16 = 32 ∨ (Rect.block (s := S4096x2048) S512x512.size (![t.val, (BitVec.ofNat 32 n.val).toNat] : Fin 2 → ℕ) h).WholeWords (EltTy.packing .bf16) := by decide +kernel

theorem ok_of_words (pf : pre1.Contents (Elt F)) (ht : ∀ i, (word1 pf 0 i).toNat < 8) (he : ∀ i, (word1 pf 1 i).toNat < 13) : ok1 pf :=
  ⟨fun i => ok_codes ⟨_, ht i⟩, fun i => ok_scale ⟨_, ht i⟩, fun i => ok_w ⟨_, he i⟩ (i 0), fun i => ok_ws ⟨_, he i⟩ (i 0), fun i => ok_out ⟨_, ht i⟩ (i 0)⟩

theorem ok_tbl (m : (ℓ : Loc nD τ sig) → Buf (Elt F) ℓ) (hg : S (sizes m 0) 13 = 4096) : ok1 (tbl m) :=
  ok_of_words _ (word_tile_lt m hg) (word_grp_lt m hg)

end Cert.KernelIdeal.Gen

end
-- ==== Proof.GmmBlocks.lean ====
/-
  THE GROUPED PRODUCT'S BLOCKS at a point of its grid, read off the arrays the region is entered with, by the tables' words.
-/
module

public import proofs.«01_k».proof.Proof.GmmPay
public import proofs.«01_k».proof.Proof.Run
public import proofs.«01_k».proof.Proof.Words
public import Idealize.ShloMosaic.Lib.Pipeline.ArrRel

@[expose] public section

set_option maxRecDepth 16384

noncomputable section

namespace Cert.KernelIdeal.Gen

open Idealize.ShloMosaic Idealize.ShloMosaic.TcCoe Cert.Dgrad
open Idealize.ShloMosaic.Pipeline (RDat Dat)

theorem coords1 : ∀ t : Fin grid1.N, (grid1.coords t 0).val = t.val / 20 ∧ (grid1.coords t 1).val = t.val % 20 := by decide +kernel

/-- Row `r` of tile `t`, column `q` of column block `n`, in the result. -/
def bigR (t : ℕ) (ht : t < 8) (r : Fin 512) : Fin 4096 := ⟨t * 512 + r.val, by have := r.isLt; omega⟩
def bigN (n : ℕ) (hn : n < 4) (q : Fin 512) : Fin 2048 := ⟨n * 512 + q.val, by have := q.isLt; omega⟩

theorem n_lt (t : Fin grid1.N) : t.val / 20 < 4 := by have h : t.val < 80 := N_1 ▸ t.isLt; omega

variable (m : (ℓ : Loc nD τ sig) → Buf (Elt Ideal) ℓ) (hg : S (sizes m 0) 13 = 4096)

/-- The tables, admissible. -/
abbrev A1 : (pcfg1 (F := Ideal)).Adm := adm1 m (ok_tbl m hg)

abbrev gz : ℕ → ℕ := sizes m 0

include hg in
theorem tile_word (t : Fin grid1.N) : (word1 (tbl m) 0 (grid1.coords t)).toNat = tile (gz m) (t.val % 20) := by
  rw [word_tile m hg, (coords1 t).2, BitVec.toNat_ofNat]
  exact Nat.mod_eq_of_lt (lt_trans (tile_lt hg _) (by norm_num))

include hg in
theorem grp_word (t : Fin grid1.N) : (word1 (tbl m) 1 (grid1.coords t)).toNat = grp (gz m) (t.val % 20) := by
  rw [word_grp m hg, (coords1 t).2, BitVec.toNat_ofNat]
  exact Nat.mod_eq_of_lt (lt_trans (grp_lt hg _) (by norm_num))

theorem n_word (t : Fin grid1.N) : (BitVec.ofNat 32 (grid1.coords t 0).val).toNat = t.val / 20 := by
  have h : t.val < 80 := N_1 ▸ t.isLt
  rw [(coords1 t).1, BitVec.toNat_ofNat]
  exact Nat.mod_eq_of_lt (by omega)

section
variable (a : (pcfg1 (F := Ideal)).Adm) (t : Fin grid1.N)
theorem win1_0_index : ((cfg1 a).win 0).index t = ![(word1 a.1 0 (grid1.coords t)).toNat, 0] := rfl
theorem win1_1_index : ((cfg1 a).win 1).index t = ![(word1 a.1 0 (grid1.coords t)).toNat, 0] := rfl
theorem win1_2_index : ((cfg1 a).win 2).index t = ![(word1 a.1 1 (grid1.coords t)).toNat, (BitVec.ofNat 32 (grid1.coords t 0).val).toNat, 0] := rfl
theorem win1_3_index : ((cfg1 a).win 3).index t = ![(word1 a.1 1 (grid1.coords t)).toNat, 0, (BitVec.ofNat 32 (grid1.coords t 0).val).toNat] := rfl
theorem win1_4_index : ((cfg1 a).win 4).index t = ![(word1 a.1 0 (grid1.coords t)).toNat, (BitVec.ofNat 32 (grid1.coords t 0).val).toNat] := rfl
end

theorem idx1_0 (t : Fin grid1.N) : ((cfg1 (A1 m hg)).win 0).index t (0 : Fin 2) = tile (gz m) (t.val % 20) ∧ ((cfg1 (A1 m hg)).win 0).index t (1 : Fin 2) = 0 := by
  rw [win1_0_index]; exact ⟨tile_word m hg t, rfl⟩
theorem idx1_1 (t : Fin grid1.N) : ((cfg1 (A1 m hg)).win 1).index t (0 : Fin 2) = tile (gz m) (t.val % 20) ∧ ((cfg1 (A1 m hg)).win 1).index t (1 : Fin 2) = 0 := by
  rw [win1_1_index]; exact ⟨tile_word m hg t, rfl⟩
theorem idx1_2 (t : Fin grid1.N) : ((cfg1 (A1 m hg)).win 2).index t (0 : Fin 3) = grp (gz m) (t.val % 20) ∧ ((cfg1 (A1 m hg)).win 2).index t (1 : Fin 3) = t.val / 20
    ∧ ((cfg1 (A1 m hg)).win 2).index t (2 : Fin 3) = 0 := by
  rw [win1_2_index]; exact ⟨grp_word m hg t, n_word t, rfl⟩
theorem idx1_3 (t : Fin grid1.N) : ((cfg1 (A1 m hg)).win 3).index t (0 : Fin 3) = grp (gz m) (t.val % 20) ∧ ((cfg1 (A1 m hg)).win 3).index t (1 : Fin 3) = 0
    ∧ ((cfg1 (A1 m hg)).win 3).index t (2 : Fin 3) = t.val / 20 := by
  rw [win1_3_index]; exact ⟨grp_word m hg t, rfl, n_word t⟩
theorem idx1_4 (t : Fin grid1.N) : ((cfg1 (A1 m hg)).win 4).index t (0 : Fin 2) = tile (gz m) (t.val % 20) ∧ ((cfg1 (A1 m hg)).win 4).index t (1 : Fin 2) = t.val / 20 := by
  rw [win1_4_index]; exact ⟨tile_word m hg t, n_word t⟩

/-- The region's four input arrays. -/
abbrev codesE (c : Dev nD) : FVec Ideal S4096x7168 .fp8e5m2 := VE m c (Proc.devRef .tc main_v0_0)
abbrev scaleE (c : Dev nD) : FVec Ideal S4096x128 .f32 := VE m c (Proc.devRef .tc main_v0_1)
abbrev wE (c : Dev nD) : FVec Ideal S13x2048x7168 .fp8e4m3 := VE m c (Proc.devRef .tc main_arg2)
abbrev wsE (c : Dev nD) : FVec Ideal S13x1x2048 .f32 := VE m c (Proc.devRef .tc main_v59)

/-- The result's element at row `R`, column `N`, by expert `e`. -/
def val1 (c : Dev nD) (e : Fin 13) (R : Fin 4096) (N : Fin 2048) : EReal :=
  (∑ k : Fin 7168, codesE m c (ValueIdx.ix2 R k) * wE m c (ValueIdx.ix3 e N k)) * scaleE m c (ValueIdx.ix2 R 0) * wsE m c (ValueIdx.ix3 e 0 N)

theorem iblk1_0_apply (c : Dev nD) (t : Fin grid1.N) (r : Fin 512) (k : Fin 7168) :
    (iblk1 (VE m) (A1 m hg) c 0 t : FVec Ideal S512x7168 .fp8e5m2) (ValueIdx.ix2 r k) = codesE m c (ValueIdx.ix2 (bigR _ (tile_lt hg (t.val % 20)) r) k) := by
  obtain ⟨e0, e1⟩ := idx1_0 m hg t
  blk_ext! [iblk1, e0, e1, bigR]

theorem iblk1_1_apply (c : Dev nD) (t : Fin grid1.N) (r : Fin 512) (k : Fin 128) :
    (iblk1 (VE m) (A1 m hg) c 1 t : FVec Ideal S512x128 .f32) (ValueIdx.ix2 r k) = scaleE m c (ValueIdx.ix2 (bigR _ (tile_lt hg (t.val % 20)) r) k) := by
  obtain ⟨e0, e1⟩ := idx1_1 m hg t
  blk_ext! [iblk1, e0, e1, bigR]

theorem iblk1_2_apply (c : Dev nD) (t : Fin grid1.N) (q : Fin 512) (k : Fin 7168) :
    (iblk1 (VE m) (A1 m hg) c 2 t : FVec Ideal S1x512x7168 .fp8e4m3) (ValueIdx.ix3 0 q k)
      = wE m c (ValueIdx.ix3 (⟨grp (gz m) (t.val % 20), grp_lt hg _⟩ : Fin 13) (bigN (t.val / 20) (n_lt t) q) k) := by
  obtain ⟨e0, e1, e2⟩ := idx1_2 m hg t
  blk_ext! [iblk1, e0, e1, e2, bigN]

theorem iblk1_3_apply (c : Dev nD) (t : Fin grid1.N) (q : Fin 512) :
    (iblk1 (VE m) (A1 m hg) c 3 t : FVec Ideal S1x1x512 .f32) (ValueIdx.ix3 0 0 q)
      = wsE m c (ValueIdx.ix3 (⟨grp (gz m) (t.val % 20), grp_lt hg _⟩ : Fin 13) 0 (bigN (t.val / 20) (n_lt t) q)) := by
  obtain ⟨e0, e1, e2⟩ := idx1_3 m hg t
  blk_ext! [iblk1, e0, e1, e2, bigN]

end Cert.KernelIdeal.Gen

end
-- ==== Proof.GmmValue.lean ====
/-
  WHAT THE GROUPED PRODUCT'S REGION LEAVES. Its result array holds at (R, N) the sum of products of row R's codes and the weights of R's
  expert, times R's scale, times the expert's weight scale: a block is revisited by consecutive visits, each of which writes the rows of one
  expert, and when the block is written back every row of it has had its visit.
-/
module

public import proofs.«01_k».proof.Proof.GmmBlocks
public import Idealize.ShloMosaic.Lib.Pipeline.ArrRel

@[expose] public section

set_option maxRecDepth 16384

noncomputable section

namespace Cert.KernelIdeal.Gen

open Idealize.ShloMosaic Idealize.ShloMosaic.TcCoe Cert.Dgrad
open Idealize.ShloMosaic.Pipeline (RDat Dat)

variable (m : (ℓ : Loc nD τ sig) → Buf (Elt Ideal) ℓ) (hg : S (sizes m 0) 13 = 4096)

/-! ## The predicate on the output block, and that it follows -/

/-- Row `r` of visit `j`'s tile is in a visit up to `j`. -/
def done (g : ℕ → ℕ) (j : ℕ) (r : ℕ) : Prop := ∃ j' ≤ j, tile g j' = tile g j ∧ S g (grp g j') ≤ tile g j * 512 + r ∧ tile g j * 512 + r < S g (grp g j' + 1)

/-- A row's expert. -/
def expert (g : ℕ → ℕ) (hg : S g 13 = 4096) (R : Fin 4096) : Fin 13 := ⟨egroup g R.val, (egroup_spec hg R.isLt).1⟩

/-- The visited rows of the block hold the result. -/
def Rel1 (c : Dev nD) : Pred1 (A1 m hg) := fun t X => ∀ r q : Fin 512, done (gz m) (t.val % 20) r.val →
  (X : FVec Ideal S512x512 .bf16) (ValueIdx.ix2 r q)
    = val1 m c (expert (gz m) hg (bigR (tile (gz m) (t.val % 20)) (tile_lt hg _) r)) (bigR (tile (gz m) (t.val % 20)) (tile_lt hg _) r) (bigN (t.val / 20) (n_lt t) q)

include hg in
theorem S_tot (k : ℕ) (hk : k ≤ 13) : S (gz m) k ≤ 4096 := hg ▸ S_mono (gz m) hk

theorem stored_gen (V : Dev nD → Valuation τ sig (Elt Ideal)) (a : (pcfg1 (F := Ideal)).Adm) (c : Dev nD) (t : Fin grid1.N) (Y : FVec Ideal S512x512 .bf16) (r q : Fin 512)
    {T lo hi : ℕ} (hT : T < 8) (hlo : lo ≤ 4096) (hhi : hi ≤ 4096) (e0 : word1 a.1 0 (grid1.coords t) = BitVec.ofNat 32 T)
    (e2 : word1 a.1 2 (grid1.coords t) = BitVec.ofNat 32 lo) (e3 : word1 a.1 3 (grid1.coords t) = BitVec.ofNat 32 hi) :
    (stored1 V a c t Y : FVec Ideal S512x512 .bf16) (ValueIdx.ix2 r q)
      = if lo ≤ 512 * T + r.val ∧ 512 * T + r.val < hi then prod1 (iblk1 V a c 0 t) (iblk1 V a c 1 t) (iblk1 V a c 2 t) (iblk1 V a c 3 t) r q
        else Y (ValueIdx.ix2 r q) := by
  unfold stored1
  rw [e0, e2, e3]
  exact merge1_apply hT hlo hhi (iblk1 V a c 0 t) (iblk1 V a c 1 t) (iblk1 V a c 2 t) (iblk1 V a c 3 t) Y r q

theorem prod_blocks (c : Dev nD) (t : Fin grid1.N) (r q : Fin 512) :
    prod1 (iblk1 (VE m) (A1 m hg) c 0 t) (iblk1 (VE m) (A1 m hg) c 1 t) (iblk1 (VE m) (A1 m hg) c 2 t) (iblk1 (VE m) (A1 m hg) c 3 t) r q
      = val1 m c ⟨grp (gz m) (t.val % 20), grp_lt hg _⟩ (bigR (tile (gz m) (t.val % 20)) (tile_lt hg _) r) (bigN (t.val / 20) (n_lt t) q) := by
  have h0 := iblk1_0_apply m hg c t r
  have h1 := iblk1_1_apply m hg c t r 0
  have h2 := iblk1_2_apply m hg c t q
  have h3 := iblk1_3_apply m hg c t q
  unfold prod1 val1
  generalize (iblk1 (VE m) (A1 m hg) c 0 t : FVec Ideal S512x7168 .fp8e5m2) = b0 at h0 ⊢
  generalize (iblk1 (VE m) (A1 m hg) c 1 t : FVec Ideal S512x128 .f32) = b1 at h1 ⊢
  generalize (iblk1 (VE m) (A1 m hg) c 2 t : FVec Ideal S1x512x7168 .fp8e4m3) = b2 at h2 ⊢
  generalize (iblk1 (VE m) (A1 m hg) c 3 t : FVec Ideal S1x1x512 .f32) = b3 at h3 ⊢
  rw [h1, h3]
  refine congrArg (· * _ * _) (Finset.sum_congr rfl fun k _ => ?_)
  rw [h0 k, h2 k]

theorem stored_apply (c : Dev nD) (t : Fin grid1.N) (Y : FVec Ideal S512x512 .bf16) (r q : Fin 512) :
    (stored1 (VE m) (A1 m hg) c t Y : FVec Ideal S512x512 .bf16) (ValueIdx.ix2 r q)
      = if S (gz m) (grp (gz m) (t.val % 20)) ≤ 512 * tile (gz m) (t.val % 20) + r.val ∧ 512 * tile (gz m) (t.val % 20) + r.val < S (gz m) (grp (gz m) (t.val % 20) + 1)
        then val1 m c ⟨grp (gz m) (t.val % 20), grp_lt hg _⟩ (bigR (tile (gz m) (t.val % 20)) (tile_lt hg _) r) (bigN (t.val / 20) (n_lt t) q)
        else Y (ValueIdx.ix2 r q) := by
  have hG : grp (gz m) (t.val % 20) < 13 := grp_lt hg (t.val % 20)
  have e0 : word1 (A1 m hg).1 0 (grid1.coords t) = BitVec.ofNat 32 (tile (gz m) (t.val % 20)) := by rw [← (coords1 t).2]; exact word_tile m hg _
  have e2 : word1 (A1 m hg).1 2 (grid1.coords t) = BitVec.ofNat 32 (S (gz m) (grp (gz m) (t.val % 20))) := by rw [← (coords1 t).2]; exact word_lo m hg _
  have e3 : word1 (A1 m hg).1 3 (grid1.coords t) = BitVec.ofNat 32 (S (gz m) (grp (gz m) (t.val % 20) + 1)) := by rw [← (coords1 t).2]; exact word_hi m hg _
  rw [← prod_blocks]
  exact stored_gen (VE m) (A1 m hg) c t Y r q (tile_lt hg _) (S_tot m hg _ (by omega)) (S_tot m hg _ (by omega)) e0 e2 e3

theorem isOut1 : ((cfg1 (A1 m hg)).win 4).isOut = true := rfl

/-- Two points of one tile and one column block name the same block. -/
theorem idx_same (t u : Fin grid1.N) (h0 : tile (gz m) (t.val % 20) = tile (gz m) (u.val % 20)) (h1 : t.val / 20 = u.val / 20) :
    ((cfg1 (A1 m hg)).win 4).index t = ((cfg1 (A1 m hg)).win 4).index u := by
  funext a
  match a with
  | ⟨0, _⟩ => exact (idx1_4 m hg t).1.trans (h0.trans (idx1_4 m hg u).1.symm)
  | ⟨1, _⟩ => exact (idx1_4 m hg t).2.trans (h1.trans (idx1_4 m hg u).2.symm)

theorem not_flush (t u : Fin grid1.N) (hu : u.val = t.val + 1) (h0 : tile (gz m) (t.val % 20) = tile (gz m) (u.val % 20)) (h1 : t.val / 20 = u.val / 20) :
    ((cfg1 (A1 m hg)).win 4).flush t = false := by
  have hlt : u.val < grid1.N := u.isLt
  have e : ∀ h, (⟨t.val + 1, h⟩ : Fin grid1.N) = u := fun h => Fin.ext hu.symm
  unfold Pipeline.Window.flush
  rw [Bool.and_eq_false_iff]
  right
  rw [Bool.or_eq_false_iff]
  refine ⟨decide_eq_false (fun h => absurd (hu.trans h) (Nat.ne_of_lt u.isLt)), decide_eq_false fun ⟨h, hne⟩ => hne ?_⟩
  rw [e h]
  exact (idx_same m hg t u h0 h1).symm

/-- What a visit of the tile just visited finds is what the visit before left. -/
theorem finds_prev (c : Dev nD) (R : Pred1 (A1 m hg)) (t u : Fin grid1.N) (hu : t.val = u.val + 1) (h0 : tile (gz m) (u.val % 20) = tile (gz m) (t.val % 20))
    (h1 : u.val / 20 = t.val / 20) (Y : FVec Ideal S512x512 .bf16) (hY : (rdat1 (VE m) (A1 m hg) R c).Finds 4 t Y) : R u Y := by
  have e : ∀ h, (⟨t.val - 1, h⟩ : Fin grid1.N) = u := fun h => Fin.ext (by show t.val - 1 = u.val; rw [hu]; rfl)
  have hne : t.val ≠ 0 := by rw [hu]; exact Nat.succ_ne_zero _
  have hfe : ((cfg1 (A1 m hg)).win 4).fetch t = false := ((cfg1 (A1 m hg)).win 4).fetch_out (isOut1 m hg) t
  have h := ((rdat1 (VE m) (A1 m hg) R c).finds_of_pos hfe hne Y).mp hY
  rw [e] at h
  rcases h with hf | hL
  · exact absurd (hf.symm.trans (not_flush m hg u t hu h0 h1)) (by decide)
  · exact (dats1 (VE m) (A1 m hg) c).toRRel_leaves (by rfl) hL

theorem prev_arith {t : ℕ} (h0 : t % 20 ≠ 0) : t = t - 1 + 1 ∧ (t - 1) / 20 = t / 20 ∧ (t - 1) % 20 = t % 20 - 1 := by omega

theorem rel_follows (c : Dev nD) (t : Fin grid1.N) (Y : FVec Ideal S512x512 .bf16) (hY : (rdat1 (VE m) (A1 m hg) (Rel1 m hg c) c).Finds 4 t Y) :
    Rel1 m hg c t (stored1 (VE m) (A1 m hg) c t Y) := by
  intro r q hd
  refine (stored_apply m hg c t Y r q).trans ?_
  by_cases hm : S (gz m) (grp (gz m) (t.val % 20)) ≤ 512 * tile (gz m) (t.val % 20) + r.val ∧ 512 * tile (gz m) (t.val % 20) + r.val < S (gz m) (grp (gz m) (t.val % 20) + 1)
  · rw [if_pos hm]
    rw [mul_comm 512] at hm
    have hE : expert (gz m) hg (bigR (tile (gz m) (t.val % 20)) (tile_lt hg _) r) = ⟨grp (gz m) (t.val % 20), grp_lt hg _⟩ :=
      Fin.ext (grp_of_row hg hm.1 hm.2)
    rw [hE]
  · rw [if_neg hm]
    obtain ⟨j', hj, ht', hl, hh⟩ := hd
    have hne : j' ≠ t.val % 20 := fun h => hm (by subst h; rw [mul_comm]; exact ⟨hl, hh⟩)
    have hlt : j' < t.val % 20 := lt_of_le_of_ne hj hne
    obtain ⟨hu, hdiv, hmod⟩ := prev_arith (t := t.val) (Nat.ne_of_gt (Nat.lt_of_le_of_lt (Nat.zero_le _) hlt))
    obtain ⟨u, hut⟩ : ∃ u : Fin grid1.N, u.val = t.val - 1 := ⟨⟨t.val - 1, Nat.lt_of_le_of_lt (Nat.sub_le _ _) t.isLt⟩, rfl⟩
    rw [← hut] at hu hdiv hmod
    have hjm : j' ≤ u.val % 20 := by rw [hmod]; exact Nat.le_pred_of_lt hlt
    have hmt : u.val % 20 ≤ t.val % 20 := by rw [hmod]; exact Nat.sub_le _ _
    have htile : tile (gz m) (u.val % 20) = tile (gz m) (t.val % 20) :=
      le_antisymm (tile_mono hg hmt) (ht'.symm.le.trans (tile_mono hg hjm))
    have hX : Rel1 m hg c u Y := finds_prev m hg c (Rel1 m hg c) t u hu htile hdiv Y hY
    have e := hX r q ⟨j', hjm, ht'.trans htile.symm, by rw [htile]; exact hl, by rw [htile]; exact hh⟩
    refine e.trans ?_
    have eR : bigR (tile (gz m) (u.val % 20)) (tile_lt hg _) r = bigR (tile (gz m) (t.val % 20)) (tile_lt hg _) r := Fin.ext (congrArg (· * 512 + r.val) htile)
    have eN : bigN (u.val / 20) (n_lt u) q = bigN (t.val / 20) (n_lt t) q := Fin.ext (congrArg (· * 512 + q.val) hdiv)
    rw [eR, eN]

/-! ## At the write-backs -/

/-- At a write-back every row of the block has had its visit. -/
theorem done_of_flush (t : Fin grid1.N) (hf : ((cfg1 (A1 m hg)).win 4).flush t = true) (r : Fin 512) : done (gz m) (t.val % 20) r.val := by
  have hT : tile (gz m) (t.val % 20) < 8 := tile_lt hg (t.val % 20)
  have hr := r.isLt
  obtain ⟨j, hj, ht, hl, hh⟩ := covered hg (r := tile (gz m) (t.val % 20) * 512 + r.val) (by omega)
  have ht' : tile (gz m) j = tile (gz m) (t.val % 20) := by rw [ht]; omega
  by_cases hjt : j ≤ t.val % 20
  · exact ⟨j, hjt, ht', hl, hh⟩
  · exfalso
    have h80 : t.val < 80 := N_1 ▸ t.isLt
    have hlt : t.val + 1 < grid1.N := lt_of_lt_of_eq (by omega) N_1.symm
    obtain ⟨u, hu⟩ : ∃ u : Fin grid1.N, u.val = t.val + 1 := ⟨⟨t.val + 1, hlt⟩, rfl⟩
    have hmod : u.val % 20 = t.val % 20 + 1 := by omega
    have h1 : tile (gz m) (t.val % 20) ≤ tile (gz m) (u.val % 20) := tile_mono hg (by omega)
    have h2 : tile (gz m) (u.val % 20) ≤ tile (gz m) j := tile_mono hg (by omega)
    exact absurd (hf.symm.trans (not_flush m hg t u hu (le_antisymm h1 (h2.trans ht'.le)) (by omega))) (by decide)

/-- The last visit of a row's tile writes its block back. -/
theorem exists_flush (R : Fin 4096) (n : ℕ) (hn : n < 4) : ∃ t : Fin grid1.N, ((cfg1 (A1 m hg)).win 4).flush t = true ∧ t.val / 20 = n ∧ tile (gz m) (t.val % 20) = R.val / 512 := by
  obtain ⟨j, hj, ht, -, -⟩ := covered hg R.isLt
  have hP := Nat.findGreatest_spec (P := fun j => tile (gz m) j = R.val / 512) (n := 19) (by omega : j ≤ 19) ht
  have hle := Nat.findGreatest_le (P := fun j => tile (gz m) j = R.val / 512) 19
  have hgr : ∀ k, Nat.findGreatest (fun j => tile (gz m) j = R.val / 512) 19 < k → k ≤ 19 → ¬ tile (gz m) k = R.val / 512 := fun k h h' => Nat.findGreatest_is_greatest (P := fun j => tile (gz m) j = R.val / 512) h h'
  generalize Nat.findGreatest (fun j => tile (gz m) j = R.val / 512) 19 = J at hP hle hgr
  obtain ⟨t, hv⟩ : ∃ t : Fin grid1.N, t.val = 20 * n + J := ⟨⟨20 * n + J, lt_of_lt_of_eq (by omega) N_1.symm⟩, rfl⟩
  have hmod : t.val % 20 = J := by omega
  have hdiv : t.val / 20 = n := by omega
  refine ⟨t, ?_, hdiv, by rw [hmod]; exact hP⟩
  unfold Pipeline.Window.flush
  rw [Bool.and_eq_true]
  refine ⟨isOut1 m hg, ?_⟩
  rw [Bool.or_eq_true]
  by_cases h80 : t.val + 1 = 80
  · exact .inl (decide_eq_true (h80.trans N_1.symm))
  · refine .inr (decide_eq_true ⟨lt_of_le_of_ne (Nat.succ_le_of_lt t.isLt) (fun h => h80 (h.trans N_1)), fun he => ?_⟩)
    have h0 := (idx1_4 m hg _).1.symm.trans ((congrFun he (0 : Fin 2)).trans (idx1_4 m hg t).1)
    have h1 := (idx1_4 m hg _).2.symm.trans ((congrFun he (1 : Fin 2)).trans (idx1_4 m hg t).2)
    dsimp only at h0 h1
    by_cases hJ : J = 19
    · omega
    · rw [hmod, hP, show (t.val + 1) % 20 = J + 1 by omega] at h0
      exact hgr (J + 1) (by omega) (by omega) h0

/-- THE REGION'S RESULT, at an element. -/
theorem gmm_arr (c : Dev nD) (G : Buf (Elt Ideal) ((c : Thread nD τ).loc main_v60)) (hG : (rdat1 (VE m) (A1 m hg) (Rel1 m hg c) c).ArrAt 4 grid1.N G) :
    (G : FVec Ideal S4096x2048 .bf16) = fun i => val1 m c (expert (gz m) hg (i 0)) (i 0) (i 1) := by
  obtain ⟨X, hX, hA⟩ := hG.exists_exact
  rw [hA (Function.update (fun _ _ _ => Classical.arbitrary _) 4 X) fun u _ _ => by rw [Function.update_self]]
  refine Dat.arrAt_eq_of_emb _ 4 _ (fun t hf y => ?_) fun i => ?_
  · have hR : Rel1 m hg c t (X t) := (dats1 (VE m) (A1 m hg) c).toRRel_leaves (by rfl) (hX t t.isLt hf)
    have e := hR (y (0 : Fin 2)) (y (1 : Fin 2)) (done_of_flush m hg t hf _)
    rw [Pipeline.RDat.withAfter_after, Function.update_self]
    obtain ⟨e0, e1⟩ := idx1_4 m hg t
    have eR : (((cfg1 (A1 m hg)).win 4).blk t).view.emb y (0 : Fin 2) = bigR (tile (gz m) (t.val % 20)) (tile_lt hg _) (y (0 : Fin 2)) :=
      Fin.ext (by blk_simp [e0, bigR])
    have eN : (((cfg1 (A1 m hg)).win 4).blk t).view.emb y (1 : Fin 2) = bigN (t.val / 20) (n_lt t) (y (1 : Fin 2)) :=
      Fin.ext (by blk_simp [e1, bigN])
    refine Eq.trans (b := X t (ValueIdx.ix2 (y (0 : Fin 2)) (y (1 : Fin 2)))) ?_ (e.trans ?_)
    · exact congrArg (X t) (ValueIdx.eq_ix2 y)
    · rw [← eR, ← eN]
  · have h1 : (i (1 : Fin 2)).val < 2048 := (i (1 : Fin 2)).isLt
    obtain ⟨t, hf, hn, ht⟩ := exists_flush m hg (i (0 : Fin 2)) ((i (1 : Fin 2)).val / 512) (by omega)
    obtain ⟨e0, e1⟩ := idx1_4 m hg t
    refine ⟨t, hf, ?_⟩
    rw [hn] at e1
    rw [ht] at e0
    refine (((cfg1 (A1 m hg)).win 4).emb_mem_blk_iff t i).mpr fun a => ?_
    match a with
    | ⟨0, _⟩ =>
      show ((cfg1 (A1 m hg)).win 4).index t (0 : Fin 2) * 512 ≤ (i (0 : Fin 2)).val ∧ (i (0 : Fin 2)).val < ((cfg1 (A1 m hg)).win 4).index t (0 : Fin 2) * 512 + 512
      rw [e0]; omega
    | ⟨1, _⟩ =>
      show ((cfg1 (A1 m hg)).win 4).index t (1 : Fin 2) * 512 ≤ (i (1 : Fin 2)).val ∧ (i (1 : Fin 2)).val < ((cfg1 (A1 m hg)).win 4).index t (1 : Fin 2) * 512 + 512
      rw [e1]; omega

end Cert.KernelIdeal.Gen

end
-- ==== Proof.KernelRow.lean ====
/-
  THE KERNEL'S QUANTISER, ONE ROW. For a row of finite values the scale it stores is a positive real `s`, and the row's codes are the
  values times `1 / s`: nothing is clipped.
-/
module

public import proofs.«01_k».proof.Proof.QuantMath
public import proofs.«01_k».proof.Proof.RowOps
public import proofs.«01_k».proof.Proof.Gen.KernelIdeal.Skeleton

@[expose] public section

set_option maxRecDepth 16384

noncomputable section

namespace Cert.KernelIdeal.Gen

open Idealize.ShloMosaic Idealize.ShloMosaic.ValueIdx Cert.Dgrad

/-- The number of powers of two that do not exceed `x`. -/
def expCount (x : ℝ) : ℕ :=
  (Finset.univ.filter fun k : Fin 255 => Ideal.ofBits .f32 (IntOp.shli .vector (BitVec.ofNat 32 (k.val + 1)) 23#32) ≤ (x : EReal)).card

/-- The block's codes. -/
def codes0 (v0 : Vec Ideal S128x7168 .bf16) : FVec Ideal S128x7168 .fp8e5m2 := k0_pay1 (F := Ideal) (k0_pay5 (F := Ideal) v0) (k0_pay6 (F := Ideal))

/-- The rows' largest magnitudes. -/
def amaxCol (v0 : Vec Ideal S128x7168 .bf16) : FVec Ideal S128x1 .bf16 :=
  shapeCast S128x1 (multiReduction .maximumf [1] S128 (absf (F := Ideal) (φ := .bf16) v0) 0xFF80#16 reduces_S128x7168_S128 (.inr rfl) rfl) shapeCasts_S128_S128x1

/-- Which powers of two exceed the rows' quotients. -/
def powMask (v0 : Vec Ideal S128x7168 .bf16) : IVec S128x255 1 :=
  cmpf .olt (broadcastTo S128x255 (mulf (extf .f32 (amaxCol v0) bitsLt_bf16_f32) (broadcast S128x1 (Scalar.ofBits (F := Ideal) .f32 0x37924925#32))) broadcasts_S128x1_S128x255)
    (bitcastToFloat (F := Ideal) .f32 (shli (addi (iota .tc S128x255 32 [1] iota_S128x255_d1_w32) (broadcast S128x255 1#32)) (broadcast S128x255 23#32)))

/-- How many do not. -/
def countCol (v0 : Vec Ideal S128x7168 .bf16) : IVec S128x1 32 :=
  subi (broadcast S128x1 255#32) (shapeCast S128x1 (multiReductionI .add [1] S128 (extui 32 (powMask v0) natLt_1_32) 0#32 reduces_S128x255_S128 rfl) shapeCasts_S128_S128x1)

theorem pay2_eq (v0 : Vec Ideal S128x7168 .bf16) : k0_pay3 (F := Ideal) v0
    = select (cmpi .eq (countCol v0) (broadcast S128x1 0#32)) (broadcast S128x1 0#32) (subi (countCol v0) (broadcast S128x1 126#32)) := rfl

/-- The column of the scales' inverses. -/
def invCol (v0 : Vec Ideal S128x7168 .bf16) : FVec Ideal S128x1 .f32 :=
  bitcastToFloat (F := Ideal) .f32 (shli (subi (broadcast S128x1 127#32) (k0_pay3 (F := Ideal) v0)) (broadcast S128x1 23#32))

theorem invCol_apply (v0 : Vec Ideal S128x7168 .bf16) (i : S128x1.Idx) :
    invCol v0 i = Ideal.ofBits .f32 (IntOp.shli .vector (127#32 - k0_pay3 (F := Ideal) v0 i) 23#32) := rfl

theorem pay3_apply (v0 : Vec Ideal S128x7168 .bf16) (i : S128x1.Idx) :
    k0_pay4 (F := Ideal) v0 i = Ideal.ofBits .f32 (IntOp.shli .vector (127#32 + k0_pay3 (F := Ideal) v0 i) 23#32) := rfl

theorem pay4_eq (v0 : Vec Ideal S128x7168 .bf16) : codes0 v0
    = truncf .fp8e5m2 (minimumf (broadcast S128x7168 (Scalar.ofBits (F := Ideal) .f32 0x47600000#32)) (maximumf (broadcast S128x7168 (Scalar.ofBits (F := Ideal) .f32 0xC7600000#32))
      (mulf (extf .f32 (v0 : FVec Ideal S128x7168 .bf16) bitsLt_bf16_f32) (broadcastTo S128x7168 (invCol v0) broadcasts_S128x1_S128x7168)))) bitsLt_fp8e5m2_f32 := rfl

theorem pay4_apply (v0 : Vec Ideal S128x7168 .bf16) (i : S128x7168.Idx) : codes0 v0 i
    = min (Ideal.ofBits .f32 0x47600000#32) (max (Ideal.ofBits .f32 0xC7600000#32) (v0 i * broadcastTo S128x7168 (invCol v0) broadcasts_S128x1_S128x7168 i)) := by
  rw [pay4_eq]
  rfl

theorem amaxCol_apply (v0 : Vec Ideal S128x7168 .bf16) (r : Fin 128) :
    amaxCol v0 (ix2 r (0 : Fin 1)) = Finset.univ.fold max (⊥ : EReal) fun k : Fin 7168 => max (v0 (ix2 r k)) (-v0 (ix2 r k)) := by
  unfold amaxCol
  rw [col_apply]
  refine (row_maximum (φ := .bf16) (absf (F := Ideal) (φ := .bf16) v0) _ _ _ _ r).trans ?_
  rw [ofBits_bot16]
  rfl

theorem powMask_apply (v0 : Vec Ideal S128x7168 .bf16) (r : Fin 128) (A : ℝ) (hA : amaxCol v0 (ix2 r (0 : Fin 1)) = (A : EReal)) (k : Fin 255) :
    powMask v0 (ix2 r k) = BitVec.ofBool (decide (((A * cE : ℝ) : EReal) < Ideal.ofBits .f32 (IntOp.shli .vector (BitVec.ofNat 32 (k.val + 1)) 23#32))) := by
  have h1 : (broadcastTo S128x255 (mulf (extf .f32 (amaxCol v0) bitsLt_bf16_f32) (broadcast S128x1 (Scalar.ofBits (F := Ideal) .f32 0x37924925#32))) broadcasts_S128x1_S128x255) (ix2 r k)
      = ((A * cE : ℝ) : EReal) := by
    rw [bcol_apply]
    rw [mulf_apply, extf_apply, broadcast_apply, scalar_ofBits, hA, ofBits_c, EReal.coe_mul]
  have h2 : (bitcastToFloat (F := Ideal) .f32 (shli (addi (iota .tc S128x255 32 [1] iota_S128x255_d1_w32) (broadcast S128x255 1#32)) (broadcast S128x255 23#32))) (ix2 r k)
      = Ideal.ofBits .f32 (IntOp.shli .vector (BitVec.ofNat 32 (k.val + 1)) 23#32) := by
    rw [bitcast_apply, shli_apply, addi_apply, iota_col, broadcast_apply, broadcast_apply, BitVec.ofNat_add]
  unfold powMask
  rw [cmpf_apply, h1, h2]
  rfl

theorem countCol_apply (v0 : Vec Ideal S128x7168 .bf16) (r : Fin 128) (A : ℝ) (hA : amaxCol v0 (ix2 r (0 : Fin 1)) = (A : EReal)) (hc : expCount (A * cE) ≤ 252) :
    countCol v0 (ix2 r (0 : Fin 1)) = BitVec.ofNat 32 (expCount (A * cE)) := by
  unfold countCol
  have e : (multiReductionI .add [1] S128 (extui 32 (powMask v0) natLt_1_32) 0#32 reduces_S128x255_S128 rfl (ValueIdx.ix1 r)).toNat
      = (Finset.univ.filter fun k : Fin 255 => ((A * cE : ℝ) : EReal) < Ideal.ofBits .f32 (IntOp.shli .vector (BitVec.ofNat 32 (k.val + 1)) 23#32)).card := by
    refine row_count (extui 32 (powMask v0) natLt_1_32) (fun k : Fin 255 => ((A * cE : ℝ) : EReal) < Ideal.ofBits .f32 (IntOp.shli .vector (BitVec.ofNat 32 (k.val + 1)) 23#32)) _ _ r (by norm_num) fun k => ?_
    rw [extui_apply, powMask_apply v0 r A hA k]
    by_cases h : ((A * cE : ℝ) : EReal) < Ideal.ofBits .f32 (IntOp.shli .vector (BitVec.ofNat 32 (k.val + 1)) 23#32)
    · rw [if_pos h, decide_eq_true h]; rfl
    · rw [if_neg h, decide_eq_false h]; rfl
  have hs := Finset.card_filter_add_card_filter_not (s := (Finset.univ : Finset (Fin 255)))
    (fun k : Fin 255 => Ideal.ofBits .f32 (IntOp.shli .vector (BitVec.ofNat 32 (k.val + 1)) 23#32) ≤ ((A * cE : ℝ) : EReal))
  simp only [not_le] at hs
  rw [Finset.card_univ, Fintype.card_fin] at hs
  change expCount (A * cE) + _ = 255 at hs
  refine BitVec.eq_of_toNat_eq ?_
  rw [subi_apply, broadcast_apply, col_apply, BitVec.toNat_sub, e, BitVec.toNat_ofNat, BitVec.toNat_ofNat]
  omega

theorem exponent_word (v0 : Vec Ideal S128x7168 .bf16) (r : Fin 128) (A : ℝ)
    (hA : amaxCol v0 (ix2 r (0 : Fin 1)) = (A : EReal)) (hc : expCount (A * cE) ≤ 252) :
    k0_pay3 (F := Ideal) v0 (ix2 r (0 : Fin 1)) = if expCount (A * cE) = 0 then 0#32 else BitVec.ofNat 32 (expCount (A * cE)) - 126#32 := by
  rw [pay2_eq]
  show (if (BitVec.ofBool (countCol v0 (ix2 r (0 : Fin 1)) == 0#32)) = 1#1 then 0#32 else countCol v0 (ix2 r (0 : Fin 1)) - 126#32) = _
  rw [countCol_apply v0 r A hA hc]
  generalize expCount (A * cE) = b at hc
  by_cases h : b = 0
  · subst h; rfl
  · rw [if_neg h, if_neg]
    intro hh
    have e : BitVec.ofNat 32 b = 0#32 := by
      by_contra hne
      rw [beq_eq_false_iff_ne.2 hne] at hh
      exact absurd hh (by decide)
    have := congrArg BitVec.toNat e
    rw [BitVec.toNat_ofNat, BitVec.toNat_ofNat] at this
    omega

theorem quant_row (v0 : Vec Ideal S128x7168 .bf16) (r : Fin 128) (hv : ∀ k : Fin 7168, max (v0 (ix2 r k)) (-v0 (ix2 r k)) ≤ (bfMax : EReal)) :
    ∃ s : ℝ, 0 < s ∧ k0_pay4 (F := Ideal) v0 (ix2 r (0 : Fin 1)) = (s : EReal)
      ∧ ∀ k : Fin 7168, codes0 v0 (ix2 r k) = v0 (ix2 r k) * ((1 / s : ℝ) : EReal) := by
  obtain ⟨A, hA0, hAM, hA, hle⟩ := row_max (by norm_num) (fun k : Fin 7168 => v0 (ix2 r k)) hv
  have hx : A * cE < (2 : ℝ) ^ (126 : ℤ) := lt_of_le_of_lt (mul_le_mul_of_nonneg_right hAM cE_pos.le) bfMax_cE
  obtain ⟨hb, hlt⟩ := count_pow (A * cE) hx
  have hw := exponent_word v0 r A ((amaxCol_apply v0 r).trans hA) hb
  change expCount (A * cE) ≤ 252 at hb
  change A * cE < (2 : ℝ) ^ ((expCount (A * cE) : ℤ) - 126) at hlt
  generalize expCount (A * cE) = b at hw hb hlt
  obtain ⟨e, he1, he2, hs, hi, hel⟩ : ∃ e : ℕ, 1 ≤ e ∧ e ≤ 253 ∧ 127#32 + k0_pay3 (F := Ideal) v0 (ix2 r (0 : Fin 1)) = BitVec.ofNat 32 e
      ∧ 127#32 - k0_pay3 (F := Ideal) v0 (ix2 r (0 : Fin 1)) = BitVec.ofNat 32 (254 - e) ∧ A * cE < (2 : ℝ) ^ ((e : ℤ) - 127) := by
    by_cases h0 : b = 0
    · refine ⟨127, by omega, by omega, ?_, ?_, lt_of_lt_of_le hlt (zpow_le_zpow_right₀ (by norm_num) (by omega))⟩
      · rw [hw, if_pos h0]; rfl
      · rw [hw, if_pos h0]; rfl
    · refine ⟨b + 1, by omega, by omega, ?_, ?_, by push_cast; convert hlt using 2; ring⟩
      · rw [hw, if_neg h0]
        refine BitVec.eq_of_toNat_eq ?_
        simp only [BitVec.toNat_add, BitVec.toNat_sub, BitVec.toNat_ofNat]
        omega
      · rw [hw, if_neg h0]
        refine BitVec.eq_of_toNat_eq ?_
        simp only [BitVec.toNat_add, BitVec.toNat_sub, BitVec.toNat_ofNat]
        omega
  have hpos : (0 : ℝ) < (2 : ℝ) ^ ((e : ℤ) - 127) := by positivity
  refine ⟨_, hpos, ?_, fun k => ?_⟩
  · rw [pay3_apply, hs, pow_bits e he1 (by omega)]
  · have hinv : Ideal.ofBits .f32 (IntOp.shli .vector (127#32 - k0_pay3 (F := Ideal) v0 (ix2 r (0 : Fin 1))) 23#32) = ((1 / (2 : ℝ) ^ ((e : ℤ) - 127) : ℝ) : EReal) := by
      rw [hi, pow_bits (254 - e) (by omega) (by omega), one_div, ← zpow_neg,
        show (((254 - e : ℕ) : ℤ) - 127) = -((e : ℤ) - 127) by omega]
    rw [pay4_apply, bcol_apply, invCol_apply, hinv, ofBits_hi, ofBits_lo]
    exact clip_id (hle k) hpos hel

end Cert.KernelIdeal.Gen

end
-- ==== Proof.QuantValue.lean ====
/-
  WHAT THE QUANTISER'S REGION LEAVES. Its two result arrays, row by row: for each row of finite values there is a positive real `s` such that
  the scale array holds `s` along the row and the codes are the row times `1 / s`.
-/
module

public import proofs.«01_k».proof.Proof.KernelRow
public import proofs.«01_k».proof.Proof.QuantRegion
public import Idealize.ShloMosaic.Lib.Pipeline.ValueKit

@[expose] public section

set_option maxRecDepth 16384

noncomputable section

namespace Cert.KernelIdeal.Gen

open Idealize.ShloMosaic Idealize.ShloMosaic.TcCoe Cert.Dgrad

variable (V : Dev nD → Valuation τ sig (Elt Ideal))

/-- Row block `t` of an array of rows. -/
def dyBlock (x : FVec Ideal S4096x7168 .bf16) (t : Fin 32) : Vec Ideal S128x7168 .bf16 :=
  fun i => x (ValueIdx.ix2 (⟨128 * t.val + (i 0).val, by have h : (i 0).val < 128 := (i 0).isLt; have := t.isLt; omega⟩ : Fin 4096) (i 1))

def rowBlk (R : Fin 4096) : Fin 32 := ⟨R.val / 128, by have := R.isLt; omega⟩
def rowIn (R : Fin 4096) : Fin 128 := ⟨R.val % 128, Nat.mod_lt _ (by norm_num)⟩

theorem dyBlock_apply (x : FVec Ideal S4096x7168 .bf16) (R : Fin 4096) (k : Fin 7168) : dyBlock x (rowBlk R) (ValueIdx.ix2 (rowIn R) k) = x (ValueIdx.ix2 R k) := by
  unfold dyBlock
  congr 2
  refine Fin.ext ?_
  show 128 * (R.val / 128) + R.val % 128 = R.val
  omega

theorem index0 : ∀ t : Fin cfg0.N, win0_0.index t 0 = t.val ∧ win0_0.index t 1 = 0 ∧ win0_1.index t 0 = t.val ∧ win0_1.index t 1 = 0
    ∧ win0_2.index t 0 = t.val ∧ win0_2.index t 1 = 0 := by decide +kernel

theorem iblk0_eq (c : Dev nD) (t : Fin cfg0.N) : iblk0 V c 0 t = dyBlock (V c (Proc.devRef .tc main_arg0)) t := by
  obtain ⟨e0, e1, -⟩ := index0 t
  funext y
  unfold dyBlock
  blk_ext! [iblk0, e0, e1]

theorem out0_1_eq (x0 : Vec Ideal S128x7168 .bf16) : out0_1 x0 = codes0 x0 := by
  unfold out0_1 codes0 r0_0
  rw [View.canon_unit_zero (by decide) , View.ld_unit_zero (by decide)]

theorem out0_2_eq (x0 : Vec Ideal S128x7168 .bf16) : out0_2 x0 = k0_pay2 (k0_pay4 x0) := by
  unfold out0_2 r0_0 r0_1
  rw [View.canon_unit_zero (by decide), View.ld_unit_zero (by decide)]

/-- A block of 128 rows put back at its coordinates in the array. -/
theorem row_block {n : ℕ} {E : Type} (f : Fin 32 → (⟨2, ![128, n]⟩ : Shape).Idx → E) (t : Fin 32) (y : (⟨2, ![128, n]⟩ : Shape).Idx) (R : Fin 4096) (q : Fin n)
    (hR : R.val = t.val * 128 + (y 0).val) (hq : q.val = (y 1).val) : f t y = f (rowBlk R) (ValueIdx.ix2 (rowIn R) q) := by
  have hy : (y 0).val < 128 := (y 0).isLt
  have h0 : rowBlk R = t := Fin.ext (by show R.val / 128 = t.val; omega)
  rw [h0]
  congr 1
  refine (ValueIdx.eq_ix2 y).trans ?_
  exact congrArg₂ ValueIdx.ix2 (Fin.ext (by show (y 0).val = R.val % 128; omega)) (Fin.ext hq.symm)

theorem codes_arr (c : Dev nD) : (dats0 V c).arrAt 1 cfg0.N
    = fun i : S4096x7168.Idx => codes0 (dyBlock (V c (Proc.devRef .tc main_arg0)) (rowBlk (i 0))) (ValueIdx.ix2 (rowIn (i 0)) (i 1)) := by
  refine (dats0 V c).arrAt_eq_of_covers 1 _ (by decide +kernel) fun t hf y => ?_
  obtain ⟨e0, e1, e2, e3, -⟩ := index0 t
  blk_simp
  rw [after0_1, iblk0_eq, out0_1_eq]
  idx_bounds y
  refine row_block (fun t => codes0 (dyBlock (V c (Proc.devRef .tc main_arg0)) t)) t y _ _ ?_ ?_
  · blk_simp [e2]
  · blk_simp [e3]

theorem scale_arr (c : Dev nD) : (dats0 V c).arrAt 2 cfg0.N
    = fun i : S4096x128.Idx => k0_pay2 (k0_pay4 (dyBlock (V c (Proc.devRef .tc main_arg0)) (rowBlk (i 0)))) (ValueIdx.ix2 (rowIn (i 0)) (i 1)) := by
  refine (dats0 V c).arrAt_eq_of_covers 2 _ (by decide +kernel) fun t hf y => ?_
  obtain ⟨e0, e1, -, -, e2, e3⟩ := index0 t
  blk_simp
  rw [after0_2, iblk0_eq, out0_2_eq]
  idx_bounds y
  refine row_block (fun t => k0_pay2 (k0_pay4 (dyBlock (V c (Proc.devRef .tc main_arg0)) t))) t y _ _ ?_ ?_
  · blk_simp [e2]
  · blk_simp [e3]

/-- The scale column laid along the lanes. -/
theorem pay2_apply (x : FVec Ideal S128x1 .f32) (r : Fin 128) (l : Fin 128) : (k0_pay2 x : FVec Ideal S128x128 .f32) (ValueIdx.ix2 r l) = x (ValueIdx.ix2 r 0) := by
  unfold k0_pay2
  rw [shapeCast_self]
  exact bcol_apply x _ r l

/-- The rows the quantiser is given. -/
abbrev dyOf (c : Dev nD) : FVec Ideal S4096x7168 .bf16 := V c (Proc.devRef .tc main_arg0)

/-- The quantiser's two arrays at a row of finite values. -/
theorem quant_arr (c : Dev nD) (R : Fin 4096) (hv : ∀ k : Fin 7168, max (dyOf V c (ValueIdx.ix2 R k)) (-dyOf V c (ValueIdx.ix2 R k)) ≤ bfMax) :
    ∃ s : ℝ, 0 < s ∧ (∀ l : Fin 128, ((dats0 V c).arrAt 2 cfg0.N : FVec Ideal S4096x128 .f32) (ValueIdx.ix2 R l) = (s : EReal))
      ∧ ∀ k : Fin 7168, ((dats0 V c).arrAt 1 cfg0.N : FVec Ideal S4096x7168 .fp8e5m2) (ValueIdx.ix2 R k) = dyOf V c (ValueIdx.ix2 R k) * ((1 / s : ℝ) : EReal) := by
  obtain ⟨s, hs, h1, h2⟩ := quant_row (dyBlock (dyOf V c) (rowBlk R)) (rowIn R) (fun k => by rw [dyBlock_apply]; exact hv k)
  refine ⟨s, hs, fun l => ?_, fun k => ?_⟩
  · rw [scale_arr]
    exact (pay2_apply _ _ _).trans h1
  · rw [codes_arr]
    exact (h2 k).trans (by rw [dyBlock_apply])

end Cert.KernelIdeal.Gen

end
-- ==== Proof.KernelValue.lean ====
/-
  THE KERNEL'S RESULT. For finite `dy` it is, at (R, N), the sum over k of dy(R, k) and the weight of R's expert at (N, k), times the
  expert's weight scale: the row's scale cancels between codes and product.
-/
module

public import proofs.«01_k».proof.Proof.GmmValue
public import proofs.«01_k».proof.Proof.QuantValue

@[expose] public section

set_option maxRecDepth 16384

noncomputable section

namespace Cert.KernelIdeal.Gen

open Idealize.ShloMosaic Idealize.ShloMosaic.TcCoe Idealize.SL.Sem Cert.Dgrad

variable (m : (ℓ : Loc nD τ sig) → Buf (Elt Ideal) ℓ) (ρ : Dev nD → PrngReg) (hg : S (sizes m 0) 13 = 4096)

abbrev argDy (c : Dev nD) : FVec Ideal S4096x7168 .bf16 := m ((c.tc : Thread nD τ).loc main_arg0)
abbrev argW (c : Dev nD) : FVec Ideal S13x2048x7168 .fp8e4m3 := m ((c.tc : Thread nD τ).loc main_arg2)
abbrev argWs (c : Dev nD) : FVec Ideal S13x2048 .f32 := m ((c.tc : Thread nD τ).loc main_arg3)

/-! ## The arrays the second region is entered with -/

theorem V11_of1 (c : Dev nD) (r : Ref sig .tc) (h : ∀ W ∈ [hostOps1_W, hostOps1_1_W, hostOps1_2_W, hostOps1_3_W, hostOps1_4_W, hostOps1_5_W, hostOps1_6_W, hostOps1_7_W, hostOps1_8_W, hostOps1_9_W], r ∉ W) :
    V11 m (outsA m) c r = V1 m (outsA m) c r := by
  simp only [List.forall_mem_cons, List.not_mem_nil, false_implies, implies_true, and_true] at h
  obtain ⟨h1, h2, h3, h4, h5, h6, h7, h8, h9, h10⟩ := h
  rw [V11_of _ _ _ _ h10, V10_of _ _ _ _ h9, V9_of _ _ _ _ h8, V8_of _ _ _ _ h7, V7_of _ _ _ _ h6, V6_of _ _ _ _ h5, V5_of _ _ _ _ h4, V4_of _ _ _ _ h3, V3_of _ _ _ _ h2, V2_of _ _ _ _ h1]

theorem codesE_eq (c : Dev nD) : codesE m c = (dats0 (V0 m) c).arrAt 1 cfg0.N :=
  (V12_of m (outsA m) c main_v0_0 (by decide)).trans ((V11_of1 m c _ (by decide)).trans ((V1_codes m c).trans (outsA_codes m c)))
theorem scaleE_eq (c : Dev nD) : scaleE m c = (dats0 (V0 m) c).arrAt 2 cfg0.N :=
  (V12_of m (outsA m) c main_v0_1 (by decide)).trans ((V11_of1 m c _ (by decide)).trans ((V1_scale m c).trans (outsA_scale m c)))
theorem wE_eq (c : Dev nD) : wE m c = argW m c :=
  (V12_of m (outsA m) c main_arg2 (by decide)).trans ((V11_of1 m c _ (by decide)).trans (V1_of m (outsA m) c main_arg2 (by decide)))
theorem ws11 (c : Dev nD) : V11 m (outsA m) c (Proc.devRef .tc main_arg3) = argWs m c :=
  (V11_of1 m c _ (by decide)).trans (V1_of m (outsA m) c main_arg3 (by decide))
theorem wsE_eq (c : Dev nD) : wsE m c = shapeCast S13x1x2048 (argWs m c) shapeCasts_S13x2048_S13x1x2048 := by
  refine (stretch10_ws (V11 m (outsA m) c)).trans ?_
  rw [ws11]

/-- An expert's weight scale at a column. -/
theorem wsE_apply (c : Dev nD) (e : Fin 13) (N : Fin 2048) : wsE m c (ValueIdx.ix3 e 0 N) = argWs m c (ValueIdx.ix2 e N) := by
  rw [wsE_eq]
  exact shapeCast_apply _ _ _ _ (by
    rw [Shape.rowMajor_val_three, Shape.rowMajor_val_two]
    show _ = (e.val * 1 + 0) * 2048 + N.val
    rw [mul_one, add_zero]; rfl)

/-- The result for finite `dy`, at an element. -/
def dgrad (dy : FVec Ideal S4096x7168 .bf16) (w : FVec Ideal S13x2048x7168 .fp8e4m3) (ws : FVec Ideal S13x2048 .f32) (e : Fin 13) (R : Fin 4096) (N : Fin 2048) : EReal :=
  (∑ k : Fin 7168, dy (ValueIdx.ix2 R k) * w (ValueIdx.ix3 e N k)) * ws (ValueIdx.ix2 e N)

theorem val1_eq (c : Dev nD) (hv : ∀ (R : Fin 4096) (k : Fin 7168), max (argDy m c (ValueIdx.ix2 R k)) (-argDy m c (ValueIdx.ix2 R k)) ≤ bfMax) (e : Fin 13) (R : Fin 4096) (N : Fin 2048) :
    val1 m c e R N = dgrad (argDy m c) (argW m c) (argWs m c) e R N := by
  obtain ⟨s, hs, h1, h2⟩ := quant_arr (V0 m) c R (hv R)
  unfold val1 dgrad
  rw [wsE_apply, codesE_eq, scaleE_eq, wE_eq, h1 0]
  rw [← cancel (fun k => argDy m c (ValueIdx.ix2 R k)) (fun k => argW m c (ValueIdx.ix3 e N k)) hs]
  refine congrArg (· * _ * _) (Finset.sum_congr rfl fun k _ => ?_)
  exact congrArg (· * _) (h2 k)

/-- THE RUN, with its value. -/
theorem run_value (hv : ∀ (R : Fin 4096) (k : Fin 7168), max (argDy m 0 (ValueIdx.ix2 R k)) (-argDy m 0 (ValueIdx.ix2 R k)) ≤ bfMax) :
    θ_run defs (onTc (τ := τ) (main (F := Ideal))) ⟨m, fun _ => 0, ρ⟩ (fun r => (∀ c : Dev nD,
      (r.2.mem ((c.tc : Thread nD τ).loc main_v60) : FVec Ideal S4096x2048 .bf16) = (fun i => dgrad (argDy m c) (argW m c) (argWs m c) (expert (gz m) hg (i 0)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine (θ_run defs _ _).mono (fun r h => ⟨fun c => ⟨?_, (h.1 c).1⟩, h.2⟩)
    (run_main m ρ (ok_tbl m hg) (Rel1 m hg 0) fun c t Y hY => ?_)
  · obtain rfl : c = 0 := Subsingleton.elim _ _
    refine (gmm_arr m hg 0 _ (h.1 0).2).trans (funext fun i => val1_eq m 0 hv _ _ _)
  · obtain rfl : c = 0 := Subsingleton.elim _ _
    exact rel_follows m hg 0 t Y hY

end Cert.KernelIdeal.Gen

end
-- ==== Proof.RefRow.lean ====
/-
  THE REFERENCE'S QUANTISER, ONE ROW. For a row of values that are at most the largest bf16 there is a positive real `s`, the smallest power of
  two above the quotient of the row's largest magnitude by the largest e5m2, such that the row's scale is `s` and its codes are the row times `1 / s`.
-/
module

public import proofs.«01_k».proof.Proof.Gen.ReferenceIdeal.Skeleton
public import proofs.«01_k».proof.Proof.QuantMath
public import proofs.«01_k».proof.Proof.RowOps

@[expose] public section

set_option maxRecDepth 16384

noncomputable section

namespace Cert.ReferenceIdeal.Gen

open Idealize.ShloMosaic Idealize.ShloMosaic.ValueIdx Cert.Dgrad

theorem ofBits_126 : Ideal.ofBits .f32 0x42FC0000#32 = ((126 : ℝ) : EReal) := by
  refine (ieee_fields 8 23 (0x42FC0000#32) false 133 8126464 (by decide +kernel) (by decide +kernel) (by decide +kernel)).trans ?_
  rw [if_neg (by norm_num), if_neg (by norm_num)]
  congr 1
  norm_num

/-- A least element: of extended reals each of which is infinite or a positive real above `x`, not all infinite. -/
theorem least_above {n : ℕ} (f : Fin n → EReal) (x : ℝ) (hf : ∀ k, f k = ⊤ ∨ ∃ p : ℝ, 0 < p ∧ x < p ∧ f k = p) (k₀ : Fin n) (hk : f k₀ ≠ ⊤) :
    ∃ s : ℝ, 0 < s ∧ x < s ∧ Finset.univ.fold min (⊤ : EReal) f = s := by
  have key : ∀ A : Finset (Fin n), A.fold min (⊤ : EReal) f = ⊤ ∨ ∃ p : ℝ, 0 < p ∧ x < p ∧ A.fold min (⊤ : EReal) f = p := fun A => by
    induction A using Finset.induction_on with
    | empty => exact .inl rfl
    | insert a A ha ih =>
      rw [Finset.fold_insert ha]
      rcases min_choice (f a) (A.fold min (⊤ : EReal) f) with h | h <;> rw [h]
      · exact hf a
      · exact ih
  refine (key Finset.univ).resolve_left fun h => hk ?_
  have : Finset.univ.fold min (⊤ : EReal) f ≤ f k₀ := Finset.fold_min_le _ |>.2 (Or.inr ⟨k₀, Finset.mem_univ _, le_rfl⟩)
  exact top_le_iff.1 (h ▸ this)

/-- The rows' largest magnitudes. -/
def amaxCol (v0 : Vec Ideal S4096x7168 .bf16) : FVec Ideal S4096x1 .f32 :=
  shapeCast S4096x1 (multiReduction .maximumf [1] S4096 (absf (k0_pay2 (F := Ideal) v0)) 0xFF800000#32 reduces_S4096x7168_S4096 (.inl rfl) rfl) shapeCasts_S4096_S4096x1

/-- The powers of two that are above the rows' quotients, the others infinite. -/
def aboveMat (v0 : Vec Ideal S4096x7168 .bf16) : FVec Ideal S4096x254 .f32 :=
  select (cmpf .ogt (exp2 (subf (sitofp .f32 (iota .tc S4096x254 32 [1] iota_S4096x254_d1_w32)) (broadcast S4096x254 (Scalar.ofBits (F := Ideal) .f32 0x42FC0000#32))))
      (broadcastTo S4096x254 (mulf (amaxCol v0) (broadcast S4096x1 (Scalar.ofBits (F := Ideal) .f32 0x37924925#32))) broadcasts_S4096x1_S4096x254))
    (exp2 (subf (sitofp .f32 (iota .tc S4096x254 32 [1] iota_S4096x254_d1_w32)) (broadcast S4096x254 (Scalar.ofBits (F := Ideal) .f32 0x42FC0000#32))))
    (broadcast S4096x254 (Scalar.ofBits (F := Ideal) .f32 0x7F800000#32))

theorem pay3_eq (v0 : Vec Ideal S4096x7168 .bf16) : k0_pay3 (F := Ideal) v0
    = select (cmpf .oeq (amaxCol v0) (broadcast S4096x1 (Scalar.ofBits (F := Ideal) .f32 0x00000000#32))) (broadcast S4096x1 (Scalar.ofBits (F := Ideal) .f32 0x3F800000#32))
      (shapeCast S4096x1 (multiReduction .minimumf [1] S4096 (aboveMat v0) 0x7F800000#32 reduces_S4096x254_S4096 (.inl rfl) rfl) shapeCasts_S4096_S4096x1) := rfl

theorem pay4_eq (v0 : Vec Ideal S4096x7168 .bf16) : k0_pay4 (F := Ideal) v0
    = truncf .fp8e5m2 (minimumf (broadcast S4096x7168 (Scalar.ofBits (F := Ideal) .f32 0x47600000#32)) (maximumf (broadcast S4096x7168 (Scalar.ofBits (F := Ideal) .f32 0xC7600000#32))
      (divf (extf .f32 (v0 : FVec Ideal S4096x7168 .bf16) bitsLt_bf16_f32) (broadcastTo S4096x7168 (k0_pay3 (F := Ideal) v0) broadcasts_S4096x1_S4096x7168)))) bitsLt_fp8e5m2_f32 := rfl

theorem pay4_apply (v0 : Vec Ideal S4096x7168 .bf16) (i : S4096x7168.Idx) : (k0_pay4 (F := Ideal) v0 : FVec Ideal S4096x7168 .fp8e5m2) i
    = min (Ideal.ofBits .f32 0x47600000#32) (max (Ideal.ofBits .f32 0xC7600000#32) (Ideal.div (v0 i) (broadcastTo S4096x7168 (k0_pay3 (F := Ideal) v0) broadcasts_S4096x1_S4096x7168 i))) := by
  rw [pay4_eq, truncf_apply, minimumf_apply, maximumf_apply, divf_apply, extf_apply, broadcast_apply, broadcast_apply, scalar_ofBits, scalar_ofBits]

theorem exp2_at {s : Shape} (a : FVec Ideal s .f32) (i : s.Idx) : exp2 a i = Ideal.exp2 (a i) := rfl

theorem sitofp_at {s : Shape} (x : IVec s 32) (i : s.Idx) : (sitofp .f32 x : FVec Ideal s .f32) i = (((x i).toInt : ℝ) : EReal) := rfl

theorem amaxCol_apply (v0 : Vec Ideal S4096x7168 .bf16) (r : Fin 4096) :
    amaxCol v0 (ix2 r (0 : Fin 1)) = Finset.univ.fold max (⊥ : EReal) fun k : Fin 7168 => max (v0 (ix2 r k)) (-v0 (ix2 r k)) := by
  unfold amaxCol
  rw [col_apply]
  refine (row_maximum (φ := .f32) (absf (k0_pay2 (F := Ideal) v0)) _ _ _ _ r).trans ?_
  rw [ofBits_bot32]
  rfl

theorem aboveMat_apply (v0 : Vec Ideal S4096x7168 .bf16) (r : Fin 4096) (A : ℝ) (hA : amaxCol v0 (ix2 r (0 : Fin 1)) = (A : EReal)) (k : Fin 254) :
    aboveMat v0 (ix2 r k) = if A * cE < (2 : ℝ) ^ (((k.val : ℝ) - 126)) then (((2 : ℝ) ^ ((k.val : ℝ) - 126) : ℝ) : EReal) else ⊤ := by
  have h1 : (broadcastTo S4096x254 (mulf (amaxCol v0) (broadcast S4096x1 (Scalar.ofBits (F := Ideal) .f32 0x37924925#32))) broadcasts_S4096x1_S4096x254) (ix2 r k)
      = ((A * cE : ℝ) : EReal) := by
    rw [bcol_apply]
    rw [mulf_apply, broadcast_apply, scalar_ofBits, hA, ofBits_c, EReal.coe_mul]
  have h2 : (exp2 (subf (sitofp .f32 (iota .tc S4096x254 32 [1] iota_S4096x254_d1_w32)) (broadcast S4096x254 (Scalar.ofBits (F := Ideal) .f32 0x42FC0000#32)))) (ix2 r k)
      = (((2 : ℝ) ^ ((k.val : ℝ) - 126) : ℝ) : EReal) := by
    have hk : (BitVec.ofNat 32 k.val).toInt = (k.val : ℤ) := by
      have := k.isLt
      rw [BitVec.toInt_eq_toNat_of_lt (by rw [BitVec.toNat_ofNat]; omega), BitVec.toNat_ofNat]
      omega
    rw [exp2_at, subf_apply, sitofp_at, iota_col, broadcast_apply, scalar_ofBits, ofBits_126, hk, ← EReal.coe_sub, Ideal.exp2_coe, Int.cast_natCast]
    rfl
  unfold aboveMat
  rw [select_apply, cmpf_apply, h1, h2, broadcast_apply, scalar_ofBits, ofBits_top32]
  by_cases h : A * cE < (2 : ℝ) ^ ((k.val : ℝ) - 126)
  · rw [if_pos h]
    refine Eq.trans (congrArg (fun b => Scalar.select b _ _) (?_ : _ = 1#1)) (select_one _ _)
    exact (congrArg BitVec.ofBool (decide_eq_true (EReal.coe_lt_coe_iff.2 h)))
  · rw [if_neg h]
    refine Eq.trans (congrArg (fun b => Scalar.select b _ _) (?_ : _ = 0#1)) (select_zero _ _)
    exact (congrArg BitVec.ofBool (decide_eq_false (fun h' => h (EReal.coe_lt_coe_iff.1 h'))))

theorem quant_row (v0 : Vec Ideal S4096x7168 .bf16) (r : Fin 4096) (hv : ∀ k : Fin 7168, max (v0 (ix2 r k)) (-v0 (ix2 r k)) ≤ (bfMax : EReal)) :
    ∃ s : ℝ, 0 < s ∧ (k0_pay3 (F := Ideal) v0 : FVec Ideal S4096x1 .f32) (ix2 r (0 : Fin 1)) = (s : EReal)
      ∧ ∀ k : Fin 7168, (k0_pay4 (F := Ideal) v0 : FVec Ideal S4096x7168 .fp8e5m2) (ix2 r k) = v0 (ix2 r k) * ((1 / s : ℝ) : EReal) := by
  obtain ⟨A, hA0, hAM, hA, hle⟩ := row_max (by norm_num) (fun k : Fin 7168 => v0 (ix2 r k)) hv
  have hx : A * cE < (2 : ℝ) ^ (126 : ℤ) := lt_of_le_of_lt (mul_le_mul_of_nonneg_right hAM cE_pos.le) bfMax_cE
  have hA' := (amaxCol_apply v0 r).trans hA
  obtain ⟨s, hs, hxs, e⟩ : ∃ s : ℝ, 0 < s ∧ A * cE < s ∧ (k0_pay3 (F := Ideal) v0 : FVec Ideal S4096x1 .f32) (ix2 r (0 : Fin 1)) = (s : EReal) := by
    obtain ⟨s, hs, hxs, e⟩ := least_above (fun k : Fin 254 => aboveMat v0 (ix2 r k)) (A * cE) (fun k => by
      rw [aboveMat_apply v0 r A hA' k]
      by_cases h : A * cE < (2 : ℝ) ^ ((k.val : ℝ) - 126)
      · rw [if_pos h]; exact .inr ⟨_, by positivity, h, rfl⟩
      · rw [if_neg h]; exact .inl rfl) ⟨253, by norm_num⟩ (by
      rw [aboveMat_apply v0 r A hA', if_pos]
      · exact EReal.coe_ne_top _
      · refine hx.trans_le ?_
        show (2 : ℝ) ^ (126 : ℤ) ≤ (2 : ℝ) ^ (((253 : ℕ) : ℝ) - 126)
        rw [← Real.rpow_intCast]
        exact Real.rpow_le_rpow_of_exponent_le (by norm_num) (by norm_num))
    rw [pay3_eq]
    rw [select_apply, cmpf_apply, hA', broadcast_apply, scalar_ofBits, Ideal.ofBits_zero_f32, broadcast_apply, scalar_ofBits, ofBits_one32, col_apply]
    rw [show multiReduction .minimumf [1] S4096 (aboveMat v0) 0x7F800000#32 reduces_S4096x254_S4096 (.inl rfl) rfl (ValueIdx.ix1 r) = (s : EReal) from
      (row_minimum (φ := .f32) (aboveMat v0) _ _ _ _ r).trans (by rw [ofBits_top32]; exact e)]
    by_cases h0 : A = 0
    · refine ⟨1, one_pos, by rw [h0, zero_mul]; exact one_pos, ?_⟩
      refine Eq.trans (congrArg (fun b => Scalar.select b _ _) (?_ : _ = 1#1)) ((select_one _ _).trans EReal.coe_one.symm)
      exact (congrArg BitVec.ofBool (decide_eq_true (by rw [h0]; exact EReal.coe_zero)))
    · refine ⟨s, hs, hxs, ?_⟩
      refine Eq.trans (congrArg (fun b => Scalar.select b _ _) (?_ : _ = 0#1)) (select_zero _ _)
      exact (congrArg BitVec.ofBool (decide_eq_false (fun h' => h0 (EReal.coe_eq_zero.1 h'))))
  refine ⟨s, hs, e, fun k => ?_⟩
  rw [pay4_apply, bcol_apply, e, ofBits_hi, ofBits_lo]
  rw [show Ideal.div (v0 (ix2 r k)) (s : EReal) = v0 (ix2 r k) * ((1 / s : ℝ) : EReal) by
    unfold Ideal.div
    rw [if_neg (by exact_mod_cast hs.ne'), ← EReal.coe_inv, one_div]]
  exact clip_id (hle k) hs hxs

end Cert.ReferenceIdeal.Gen

end
-- ==== Proof.RefStep.lean ====
/-
  THE REFERENCE'S THIRTEEN STEPS. Expert after expert, the rows of the expert's group are set to the product of their codes with the expert's
  weights times their scale times the weight scales, the other rows kept: `chain`. What the body stores is the chain after the thirteenth
  expert (`pieces_eq`), and there a row holds the product of the one expert whose group it is in (`chain_apply`).
-/
module

public import proofs.«01_k».proof.Proof.RefRow
public import proofs.«01_k».proof.Proof.TableNat
public import proofs.«01_k».proof.Proof.Precond
public import proofs.«01_k».proof.Proof.Gen.ReferenceIdeal.Value
public import Idealize.ShloMosaic.Lib.MatmulPlain
public import Idealize.ShloMosaic.Lib.WholeRead
public import Idealize.ShloMosaic.Lib.Pipeline.ValueKit

@[expose] public section

set_option maxRecDepth 16384

noncomputable section

namespace Cert.ReferenceIdeal.Gen

open Idealize.ShloMosaic Idealize.ShloMosaic.TcCoe Cert.Dgrad

section
variable {F : FTy → Type} [FloatOps F]

/-- One expert's rows set. -/
def step (co : FVec F S4096x7168 .fp8e5m2) (sc : FVec F S4096x1 .f32) (w : Vec F S1x2048x7168 .fp8e4m3) (ws : Vec F S1x2048 .f32) (lo hi : BitVec 32)
    (prev : FVec F S4096x2048 .f32) : FVec F S4096x2048 .f32 :=
  select (andi (cmpi .sge (iota .tc S4096x2048 32 [0] iota_S4096x2048_d0_w32) (broadcast S4096x2048 lo)) (cmpi .slt (iota .tc S4096x2048 32 [0] iota_S4096x2048_d0_w32) (broadcast S4096x2048 hi)))
    (mulf (mulf (matmul dot_S4096x7168_S2048x7168_S4096x2048_1_1_0_0_n_n none co (shapeCast S2048x7168 (w : FVec F S1x2048x7168 .fp8e4m3) shapeCasts_S1x2048x7168_S2048x7168) (constant S4096x2048 .f32 0x00000000#32))
        (broadcastTo S4096x2048 sc broadcasts_S4096x1_S4096x2048))
      (broadcastTo S4096x2048 (ws : FVec F S1x2048 .f32) broadcasts_S1x2048_S4096x2048)) prev

/-- The first row of a group, as a word. -/
def offs (sz : ℕ → BitVec 32) : ℕ → BitVec 32
  | 0 => 0#32
  | n + 1 => Scalar.addi (offs sz n) (sz n)

/-- The rows after the first `n` experts. -/
def chain (co : FVec F S4096x7168 .fp8e5m2) (sc : FVec F S4096x1 .f32) (w : ℕ → Vec F S1x2048x7168 .fp8e4m3) (ws : ℕ → Vec F S1x2048 .f32) (sz : ℕ → BitVec 32) : ℕ → FVec F S4096x2048 .f32
  | 0 => k0_pay5
  | n + 1 => step co sc (w n) (ws n) (offs sz n) (offs sz (n + 1)) (chain co sc w ws sz n)

section
variable (v0 : Vec F S4096x7168 .bf16) (w : ℕ → Vec F S1x2048x7168 .fp8e4m3) (ws : ℕ → Vec F S1x2048 .f32) (sz : ℕ → BitVec 32)

/-- The body's row numbers. -/
abbrev rows : IVec S4096x2048 32 := iota .tc S4096x2048 32 [0] iota_S4096x2048_d0_w32

/-! The chain as the body's parts cut it. -/

theorem chain_3 : k0_pay8 (k0_pay3 v0) (k0_pay4 v0) rows k0_pay5 (offs sz 1) (k0_pay6 v0 (w 0)) (k0_pay7 (F := F) (sz 0)) (ws 0) (sz 1) (w 1) (ws 1) (sz 2) (w 2) (ws 2)
    = chain (k0_pay4 v0) (k0_pay3 v0) w ws sz 3 := rfl

theorem chain_5 (p : FVec F S4096x2048 .f32) (hp : p = chain (k0_pay4 v0) (k0_pay3 v0) w ws sz 3) :
    k0_pay9 (k0_pay3 v0) (k0_pay4 v0) rows (offs sz 3) p (offs sz 4) (w 3) (ws 3) (sz 4) (w 4) (ws 4)
    = chain (k0_pay4 v0) (k0_pay3 v0) w ws sz 5 := by subst hp; rfl

theorem chain_8 (p : FVec F S4096x2048 .f32) (hp : p = chain (k0_pay4 v0) (k0_pay3 v0) w ws sz 5) :
    k0_pay12 (k0_pay3 v0) (k0_pay4 v0) rows p (offs sz 6) (k0_pay10 (F := F) rows (offs sz 4) (sz 4) (sz 5)) (k0_pay11 (k0_pay3 v0) (k0_pay4 v0) (w 5)) (ws 5) (sz 6) (w 6) (ws 6) (sz 7) (w 7) (ws 7)
    = chain (k0_pay4 v0) (k0_pay3 v0) w ws sz 8 := by subst hp; rfl

theorem chain_11 (p : FVec F S4096x2048 .f32) (hp : p = chain (k0_pay4 v0) (k0_pay3 v0) w ws sz 8) :
    k0_pay15 (k0_pay3 v0) (k0_pay4 v0) rows p (offs sz 9) (k0_pay13 (k0_pay4 v0) (w 8)) (k0_pay14 (F := F) (offs sz 6) (sz 6) (sz 7)) (ws 8) (sz 9) (w 9) (ws 9) (sz 10) (w 10) (ws 10)
    = chain (k0_pay4 v0) (k0_pay3 v0) w ws sz 11 := by subst hp; rfl

theorem chain_13 (p : FVec F S4096x2048 .f32) (hp : p = chain (k0_pay4 v0) (k0_pay3 v0) w ws sz 11) :
    k0_pay1 (k0_pay3 v0) (k0_pay4 v0) rows (offs sz 11) p (sz 11) (w 11) (ws 11) (sz 12) (w 12) (ws 12)
    = truncf .bf16 (chain (k0_pay4 v0) (k0_pay3 v0) w ws sz 13) bitsLt_bf16_f32 := by subst hp; rfl

end

theorem inb_w (n : ℕ) : ∀ a, (![n % 13, 0, 0] : Fin 3 → ℕ) a + S1x2048x7168.size a ≤ S13x2048x7168.size a := by
  intro a
  have := Nat.mod_lt n (show 0 < 13 by norm_num)
  fin_cases a
  · show n % 13 + 1 ≤ 13; omega
  · exact le_refl 2048
  · exact le_refl 7168

theorem inb_ws (n : ℕ) : ∀ a, (![n % 13, 0] : Fin 2 → ℕ) a + S1x2048.size a ≤ S13x2048.size a := by
  intro a
  have := Nat.mod_lt n (show 0 < 13 by norm_num)
  fin_cases a
  · show n % 13 + 1 ≤ 13; omega
  · exact le_refl 2048

theorem inb_sz (n : ℕ) : ∀ a, (![n % 13] : Fin 1 → ℕ) a + S1.size a ≤ S13.size a := by
  intro a
  have := Nat.mod_lt n (show 0 < 13 by norm_num)
  fin_cases a
  show n % 13 + 1 ≤ 13; omega

abbrev rectDy : LoadRect S4096x7168 := (Rect.unit ![0, 0] ![4096, 7168] inb_S4096x7168_S4096x7168_0_0).toLoadRect
abbrev rectW (n : ℕ) : LoadRect S13x2048x7168 := (Rect.unit (s := S13x2048x7168) ![n % 13, 0, 0] ![1, 2048, 7168] (inb_w n)).toLoadRect
abbrev rectWs (n : ℕ) : LoadRect S13x2048 := (Rect.unit (s := S13x2048) ![n % 13, 0] ![1, 2048] (inb_ws n)).toLoadRect
abbrev rectSz (n : ℕ) : LoadRect S13 := (Rect.unit (s := S13) ![n % 13] ![1] (inb_sz n)).toLoadRect

/-- An expert's weights, … -/
def wAt (x2 : Vec F S13x2048x7168 .fp8e4m3) (n : ℕ) : Vec F S1x2048x7168 .fp8e4m3 := fun x => x2 ((rectW n).idx x)
/-- … weight scales … -/
def wsAt (x3 : Vec F S13x2048 .f32) (n : ℕ) : Vec F S1x2048 .f32 := fun x => x3 ((rectWs n).idx x)
/-- … and group's size. -/
def szAt (x1 : Vec F S13 .i32) (n : ℕ) : BitVec 32 := x1 ((rectSz n).idx (Shape.Idx.first (show 0 < S1.numel by decide)))

theorem readAt_fun {κ : Kind} {sp : Space} {s : Shape} {e : EltTy} {r : Memref sig κ sp s e} (h : r.IsWhole) (X : s.Idx → Elt F e) (B : LoadRect s) :
    View.readAt (Elt F) r.view B (h.unread X) = fun x => X (B.idx x) := funext fun x => h.readAt_unread X B x

theorem pieces_eq (c : Dev nD) (arg0 : Memref sig .tc .vmem S4096x7168 .bf16) (harg0 : arg0.IsWhole) (arg1 : Memref sig .tc .smem S13 .i32) (harg1 : arg1.IsWhole) (arg2 : Memref sig .tc .vmem S13x2048x7168 .fp8e4m3) (harg2 : arg2.IsWhole) (arg3 : Memref sig .tc .vmem S13x2048 .f32) (harg3 : arg3.IsWhole) (arg4 : Memref sig .tc .vmem S4096x2048 .bf16) (harg4 : arg4.IsWhole)
    (x0 : Vec F S4096x7168 .bf16) (x1 : Vec F S13 .i32) (x2 : Vec F S13x2048x7168 .fp8e4m3) (x3 : Vec F S13x2048 .f32) :
    (kernelRun0_A c arg0 harg0 arg1 harg1 arg2 harg2 arg3 harg3 arg4 harg4 x0 x1 x2 x3).1
      = [⟨Rect.unit ![0, 0] ![4096, 2048] inb_S4096x2048_S4096x2048_0_0,
          truncf .bf16 (chain (k0_pay4 (View.ld x0 (Rect.unit ![0, 0] ![4096, 7168] inb_S4096x7168_S4096x7168_0_0))) (k0_pay3 (View.ld x0 (Rect.unit ![0, 0] ![4096, 7168] inb_S4096x7168_S4096x7168_0_0)))
            (wAt x2) (wsAt x3) (szAt x1) 13) bitsLt_bf16_f32⟩] := by
  dsimp only [kernelRun0_A]
  refine congrArg (fun p => [(⟨Rect.unit ![0, 0] ![4096, 2048] inb_S4096x2048_S4096x2048_0_0, p⟩ : View.Piece (Elt F) S4096x2048 .bf16)]) ?_
  generalize hT : (truncf .bf16 (_ : FVec F S4096x2048 .f32) bitsLt_bf16_f32 : FVec F S4096x2048 .bf16) = T
  dsimp only [kernelRun0_A.sl.r, kernelRun0_A.sl.v32, kernelRun0_A.sl.v64, kernelRun0_A.sl.v96, kernelRun0_A.sl.v144, kernelRun0_A.sl.r_1, kernelRun0_A.sl.r_2, kernelRun0_A.sl.r_3, kernelRun0_A.sl.r_4, kernelRun0_A.sl.r_5, kernelRun0_A.sl.r_6, kernelRun0_A.sl.r_7,
    kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15,
    kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23,
    kernelRun0_A.sl.r_24, kernelRun0_A.sl.r_25, kernelRun0_A.sl.v29, kernelRun0_A.sl.v192, kernelRun0_A.sl.v160, kernelRun0_A.sl.v112, kernelRun0_A.sl.v80]
  rw [← hT]
  have hv : View.ld x0 (Rect.unit ![0, 0] ![4096, 7168] inb_S4096x7168_S4096x7168_0_0)
      = View.readAt (Elt F) arg0.view rectDy (harg0.unread x0) := (readAt_fun harg0 x0 _).symm
  have hw : wAt x2 = fun n => View.readAt (Elt F) arg2.view (rectW n) (harg2.unread x2) :=
    funext fun n => (readAt_fun harg2 x2 (rectW n)).symm
  have hws : wsAt x3 = fun n => View.readAt (Elt F) arg3.view (rectWs n) (harg3.unread x3) :=
    funext fun n => (readAt_fun harg3 x3 (rectWs n)).symm
  have hsz : szAt x1 = fun n => View.readAt (Elt F) arg1.view (rectSz n) (harg1.unread x1) (Shape.Idx.first (show 0 < S1.numel by decide)) :=
    funext fun n => (congrFun (readAt_fun harg1 x1 (rectSz n)) _).symm
  rw [hv, hw, hws, hsz]
  refine chain_13 (View.readAt (Elt F) arg0.view rectDy (harg0.unread x0)) (fun n => View.readAt (Elt F) arg2.view (rectW n) (harg2.unread x2)) (fun n => View.readAt (Elt F) arg3.view (rectWs n) (harg3.unread x3)) (fun n => View.readAt (Elt F) arg1.view (rectSz n) (harg1.unread x1) (Shape.Idx.first (show 0 < S1.numel by decide))) _ ?_
  refine chain_11 (View.readAt (Elt F) arg0.view rectDy (harg0.unread x0)) (fun n => View.readAt (Elt F) arg2.view (rectW n) (harg2.unread x2)) (fun n => View.readAt (Elt F) arg3.view (rectWs n) (harg3.unread x3)) (fun n => View.readAt (Elt F) arg1.view (rectSz n) (harg1.unread x1) (Shape.Idx.first (show 0 < S1.numel by decide))) _ ?_
  refine chain_8 (View.readAt (Elt F) arg0.view rectDy (harg0.unread x0)) (fun n => View.readAt (Elt F) arg2.view (rectW n) (harg2.unread x2)) (fun n => View.readAt (Elt F) arg3.view (rectWs n) (harg3.unread x3)) (fun n => View.readAt (Elt F) arg1.view (rectSz n) (harg1.unread x1) (Shape.Idx.first (show 0 < S1.numel by decide))) _ ?_
  refine chain_5 (View.readAt (Elt F) arg0.view rectDy (harg0.unread x0)) (fun n => View.readAt (Elt F) arg2.view (rectW n) (harg2.unread x2)) (fun n => View.readAt (Elt F) arg3.view (rectWs n) (harg3.unread x3)) (fun n => View.readAt (Elt F) arg1.view (rectSz n) (harg1.unread x1) (Shape.Idx.first (show 0 < S1.numel by decide))) _ ?_
  exact chain_3 (View.readAt (Elt F) arg0.view rectDy (harg0.unread x0)) (fun n => View.readAt (Elt F) arg2.view (rectW n) (harg2.unread x2)) (fun n => View.readAt (Elt F) arg3.view (rectWs n) (harg3.unread x3)) (fun n => View.readAt (Elt F) arg1.view (rectSz n) (harg1.unread x1) (Shape.Idx.first (show 0 < S1.numel by decide)))

end

end Cert.ReferenceIdeal.Gen

end
-- ==== Proof.RefValue.lean ====
/-
  THE REFERENCE'S RESULT for finite `dy`: each row, the sum of products of `dy` with the weights of the row's expert, times the weight scale.
-/
module

public import proofs.«01_k».proof.Proof.RefStep

@[expose] public section

set_option maxRecDepth 16384

noncomputable section

namespace Cert.ReferenceIdeal.Gen

open Idealize.ShloMosaic Idealize.ShloMosaic.TcCoe Idealize.SL.Sem Cert.Dgrad

/-! ## One step, and the chain, at an element -/

theorem toInt_ofNat {n : ℕ} (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

theorem mask_at {lo hi : ℕ} (hlo : lo ≤ 4096) (hhi : hi ≤ 4096) (R : Fin 4096) (N : Fin 2048) :
    andi (cmpi .sge rows (broadcast S4096x2048 (BitVec.ofNat 32 lo))) (cmpi .slt rows (broadcast S4096x2048 (BitVec.ofNat 32 hi))) (ValueIdx.ix2 R N)
      = BitVec.ofBool (decide (lo ≤ R.val ∧ R.val < hi)) := by
  have hR := R.isLt
  have e : (rows (ValueIdx.ix2 R N) : BitVec 32) = BitVec.ofNat 32 R.val := iota_row (a := 4096) (b := 2048) iota_S4096x2048_d0_w32 R N
  show IntOp.cmpi .sge (rows (ValueIdx.ix2 R N)) (BitVec.ofNat 32 lo) &&& IntOp.cmpi .slt (rows (ValueIdx.ix2 R N)) (BitVec.ofNat 32 hi) = _
  rw [e]
  show BitVec.ofBool (BitVec.sle _ _) &&& BitVec.ofBool (BitVec.slt _ _) = _
  rw [BitVec.sle_eq_decide, BitVec.slt_eq_decide, toInt_ofNat (by omega), toInt_ofNat (by omega), toInt_ofNat (by omega)]
  rw [(by decide : ∀ p q : Bool, BitVec.ofBool p &&& BitVec.ofBool q = BitVec.ofBool (p && q)), ← Bool.decide_and]
  exact congrArg BitVec.ofBool (decide_eq_decide.mpr (by omega))

theorem dot_plain : dot_S4096x7168_S2048x7168_S4096x2048_1_1_0_0_n_n = DotDims.transposedRhs 4096 7168 2048 := rfl

/-- One expert's product at an element. -/
def prodAt (co : FVec Ideal S4096x7168 .fp8e5m2) (sc : FVec Ideal S4096x1 .f32) (w : FVec Ideal S1x2048x7168 .fp8e4m3) (ws : FVec Ideal S1x2048 .f32) (R : Fin 4096) (N : Fin 2048) : EReal :=
  (∑ k : Fin 7168, co (ValueIdx.ix2 R k) * w (ValueIdx.ix3 0 N k)) * sc (ValueIdx.ix2 R 0) * ws (ValueIdx.ix2 0 N)

theorem step_apply (co : FVec Ideal S4096x7168 .fp8e5m2) (sc : FVec Ideal S4096x1 .f32) (w : FVec Ideal S1x2048x7168 .fp8e4m3) (ws : FVec Ideal S1x2048 .f32)
    {lo hi : ℕ} (hlo : lo ≤ 4096) (hhi : hi ≤ 4096) (prev : FVec Ideal S4096x2048 .f32) (R : Fin 4096) (N : Fin 2048) :
    step (F := Ideal) co sc w ws (BitVec.ofNat 32 lo) (BitVec.ofNat 32 hi) prev (ValueIdx.ix2 R N)
      = if lo ≤ R.val ∧ R.val < hi then prodAt co sc w ws R N else prev (ValueIdx.ix2 R N) := by
  unfold step
  rw [dot_plain, ValueIdx.select_apply, mask_at hlo hhi R N, ValueIdx.mulf_apply, ValueIdx.mulf_apply]
  by_cases hm : lo ≤ R.val ∧ R.val < hi
  · rw [decide_eq_true hm, if_pos hm]
    refine (ValueIdx.select_one _ _).trans ?_
    unfold prodAt
    refine congrArg₂ _ (congrArg₂ _ ?_ ?_) ?_
    · refine (Ideal.matmul_transposedRhs_apply _ _ _ _ _ _).trans ?_
      refine (congrArg₂ _ Ideal.ofBits_zero_f32 rfl).trans ((zero_add _).trans (Finset.sum_congr rfl fun k _ => ?_))
      exact congrArg _ (ValueIdx.shapeCast_1ab_ab_apply _ _ _ _)
    · exact bcol_apply _ _ R N
    · exact ValueIdx.broadcastTo_1b_ab_apply _ _ R N
  · rw [decide_eq_false hm, if_neg hm]
    exact ValueIdx.select_zero _ _

theorem offs_eq (sz : ℕ → BitVec 32) (g : ℕ → ℕ) (h : ∀ n < 13, sz n = BitVec.ofNat 32 (g n)) (n : ℕ) (hn : n ≤ 13) : offs sz n = BitVec.ofNat 32 (S g n) := by
  induction n with
  | zero => rfl
  | succ n ih =>
    show offs sz n + sz n = _
    rw [ih (by omega), h n (by omega), S_succ, BitVec.ofNat_add]

theorem chain_apply (co : FVec Ideal S4096x7168 .fp8e5m2) (sc : FVec Ideal S4096x1 .f32) (w : ℕ → Vec Ideal S1x2048x7168 .fp8e4m3) (ws : ℕ → Vec Ideal S1x2048 .f32) (sz : ℕ → BitVec 32)
    (g : ℕ → ℕ) (hg : S g 13 = 4096) (h : ∀ n < 13, sz n = BitVec.ofNat 32 (g n)) (R : Fin 4096) (N : Fin 2048) (n : ℕ) (hn : n ≤ 13) (he : egroup g R.val < n) :
    (chain (F := Ideal) co sc w ws sz n : FVec Ideal S4096x2048 .f32) (ValueIdx.ix2 R N) = prodAt co sc (w (egroup g R.val)) (ws (egroup g R.val)) R N := by
  obtain ⟨h13, h0, h1⟩ := egroup_spec hg R.isLt
  induction n with
  | zero => omega
  | succ n ih =>
    have a0 : S g n ≤ 4096 := hg ▸ S_mono g (by omega)
    have a1 : S g (n + 1) ≤ 4096 := hg ▸ S_mono g (by omega)
    show step (F := Ideal) co sc (w n) (ws n) (offs sz n) (offs sz (n + 1)) (chain (F := Ideal) co sc w ws sz n) (ValueIdx.ix2 R N) = _
    rw [offs_eq sz g h n (by omega), offs_eq sz g h (n + 1) hn]
    refine (step_apply co sc (w n) (ws n) a0 a1 _ R N).trans ?_
    by_cases e : egroup g R.val = n
    · rw [if_pos (by rw [← e]; exact ⟨h0, h1⟩), e]
    · have lt : egroup g R.val < n := by omega
      have := S_mono g (show egroup g R.val + 1 ≤ n by omega)
      rw [if_neg (by omega)]
      exact ih (by omega) lt

/-! ## The blocks, and what is stored -/

theorem wAt_apply (x : FVec Ideal S13x2048x7168 .fp8e4m3) (e : Fin 13) (N : Fin 2048) (k : Fin 7168) : (wAt (F := Ideal) x e.val : FVec Ideal S1x2048x7168 .fp8e4m3) (ValueIdx.ix3 0 N k) = x (ValueIdx.ix3 e N k) := by
  have := e.isLt
  exact congrArg x (funext fun a => Fin.ext (match a with
    | ⟨0, _⟩ => by show e.val % 13 + 1 * 0 = e.val; omega
    | ⟨1, _⟩ => by show 0 + 1 * N.val = N.val; omega
    | ⟨2, _⟩ => by show 0 + 1 * k.val = k.val; omega))

theorem wsAt_apply (x : FVec Ideal S13x2048 .f32) (e : Fin 13) (N : Fin 2048) : (wsAt (F := Ideal) x e.val : FVec Ideal S1x2048 .f32) (ValueIdx.ix2 0 N) = x (ValueIdx.ix2 e N) := by
  have := e.isLt
  exact congrArg x (funext fun a => Fin.ext (match a with
    | ⟨0, _⟩ => by show e.val % 13 + 1 * 0 = e.val; omega
    | ⟨1, _⟩ => by show 0 + 1 * N.val = N.val; omega))

theorem szAt_eq (x : IVec S13 32) (n : ℕ) (hn : n < 13) : szAt (F := Ideal) x n = BitVec.ofNat 32 (sizesOf x n) := by
  refine Eq.trans (congrArg x (funext fun a => Fin.ext (match a with
    | ⟨0, _⟩ => ?_)) : _ = x (ValueIdx.ix1 (⟨n, hn⟩ : Fin 13))) (sizesOf_holds x ⟨n, hn⟩)
  show n % 13 + 1 * 0 = n
  omega

theorem out_eq (c : Dev nD) (arg0 : Memref sig .tc .vmem S4096x7168 .bf16) (harg0 : arg0.IsWhole) (arg1 : Memref sig .tc .smem S13 .i32) (harg1 : arg1.IsWhole) (arg2 : Memref sig .tc .vmem S13x2048x7168 .fp8e4m3) (harg2 : arg2.IsWhole) (arg3 : Memref sig .tc .vmem S13x2048 .f32) (harg3 : arg3.IsWhole) (arg4 : Memref sig .tc .vmem S4096x2048 .bf16) (harg4 : arg4.IsWhole)
    (x0 : Vec Ideal S4096x7168 .bf16) (x1 : Vec Ideal S13 .i32) (x2 : Vec Ideal S13x2048x7168 .fp8e4m3) (x3 : Vec Ideal S13x2048 .f32) :
    out0_A_4 (F := Ideal) c arg0 harg0 arg1 harg1 arg2 harg2 arg3 harg3 arg4 harg4 x0 x1 x2 x3
      = truncf .bf16 (chain (F := Ideal) (k0_pay4 (F := Ideal) x0) (k0_pay3 (F := Ideal) x0) (wAt (F := Ideal) x2) (wsAt (F := Ideal) x3) (szAt (F := Ideal) x1) 13) bitsLt_bf16_f32 := by
  unfold out0_A_4
  rw [View.read_writes_eq_canon _ _ _ (cover0_A_4 c arg0 harg0 arg1 harg1 arg2 harg2 arg3 harg3 arg4 harg4 x0 x1 x2 x3), pieces_eq]
  rw [View.canon_unit_zero (by decide), View.ld_unit_zero (by decide)]

/-- The result at an element. -/
def dgradR (dy : FVec Ideal S4096x7168 .bf16) (w : FVec Ideal S13x2048x7168 .fp8e4m3) (ws : FVec Ideal S13x2048 .f32) (e : Fin 13) (R : Fin 4096) (N : Fin 2048) : EReal :=
  (∑ k : Fin 7168, dy (ValueIdx.ix2 R k) * w (ValueIdx.ix3 e N k)) * ws (ValueIdx.ix2 e N)

/-- The expert of a row. -/
def expertR (x : IVec S13 32) (hg : S (sizesOf x) 13 = 4096) (R : Fin 4096) : Fin 13 := ⟨egroup (sizesOf x) R.val, (egroup_spec hg R.isLt).1⟩

theorem chain_value (dy : FVec Ideal S4096x7168 .bf16) (x : IVec S13 32) (w : FVec Ideal S13x2048x7168 .fp8e4m3) (ws : FVec Ideal S13x2048 .f32) (hg : S (sizesOf x) 13 = 4096)
    (R : Fin 4096) (N : Fin 2048) (hv : ∀ k : Fin 7168, max (dy (ValueIdx.ix2 R k)) (-dy (ValueIdx.ix2 R k)) ≤ (bfMax : EReal)) :
    (chain (F := Ideal) (k0_pay4 (F := Ideal) dy) (k0_pay3 (F := Ideal) dy) (wAt (F := Ideal) w) (wsAt (F := Ideal) ws) (szAt (F := Ideal) x) 13 : FVec Ideal S4096x2048 .f32) (ValueIdx.ix2 R N)
      = dgradR dy w ws (expertR x hg R) R N := by
  obtain ⟨s, hs, h1, h2⟩ := quant_row dy R hv
  revert h1 h2
  generalize (k0_pay4 (F := Ideal) dy : FVec Ideal S4096x7168 .fp8e5m2) = co
  generalize (k0_pay3 (F := Ideal) dy : FVec Ideal S4096x1 .f32) = sc
  intro h1 h2
  refine (chain_apply co sc _ _ _ (sizesOf x) hg (szAt_eq x) R N 13 le_rfl (egroup_spec hg R.isLt).1).trans ?_
  unfold prodAt dgradR
  rw [h1, ← cancel (fun k => dy (ValueIdx.ix2 R k)) (fun k => w (ValueIdx.ix3 (expertR x hg R) N k)) hs]
  refine congrArg₂ (fun a b : EReal => a * b) (congrArg (fun a : EReal => a * _) (Finset.sum_congr rfl fun k _ => ?_)) (wsAt_apply ws (expertR x hg R) N)
  exact congrArg₂ (fun a b : EReal => a * b) (h2 k) (wAt_apply w (expertR x hg R) N k)

theorem stored_value (dy : FVec Ideal S4096x7168 .bf16) (x : IVec S13 32) (w : FVec Ideal S13x2048x7168 .fp8e4m3) (ws : FVec Ideal S13x2048 .f32) (hg : S (sizesOf x) 13 = 4096)
    (hv : ∀ (R : Fin 4096) (k : Fin 7168), max (dy (ValueIdx.ix2 R k)) (-dy (ValueIdx.ix2 R k)) ≤ (bfMax : EReal)) (y : S4096x2048.Idx) :
    (truncf .bf16 (chain (F := Ideal) (k0_pay4 (F := Ideal) dy) (k0_pay3 (F := Ideal) dy) (wAt (F := Ideal) w) (wsAt (F := Ideal) ws) (szAt (F := Ideal) x) 13) bitsLt_bf16_f32 : FVec Ideal S4096x2048 .bf16) y
      = dgradR dy w ws (expertR x hg (y 0)) (y 0) (y 1) := by
  rw [ValueIdx.truncf_apply]
  exact (congrArg _ (ValueIdx.eq_ix2 y)).trans (chain_value dy x w ws hg (y 0) (y 1) (hv (y 0)))

variable (m : (ℓ : Loc nD τ sig) → Buf (Elt Ideal) ℓ) (ρ : Dev nD → PrngReg)

abbrev argDyR (c : Dev nD) : FVec Ideal S4096x7168 .bf16 := m ((c.tc : Thread nD τ).loc main_arg0)
abbrev argGsR (c : Dev nD) : IVec S13 32 := m ((c.tc : Thread nD τ).loc main_arg1)
abbrev argWR (c : Dev nD) : FVec Ideal S13x2048x7168 .fp8e4m3 := m ((c.tc : Thread nD τ).loc main_arg2)
abbrev argWsR (c : Dev nD) : FVec Ideal S13x2048 .f32 := m ((c.tc : Thread nD τ).loc main_arg3)

theorem index0 : ∀ t : Fin cfg0.N, win0_0.index t 0 = 0 ∧ win0_0.index t 1 = 0 ∧ win0_1.index t 0 = 0 ∧ win0_2.index t 0 = 0 ∧ win0_2.index t 1 = 0 ∧ win0_2.index t 2 = 0
    ∧ win0_3.index t 0 = 0 ∧ win0_3.index t 1 = 0 ∧ win0_4.index t 0 = 0 ∧ win0_4.index t 1 = 0 := by decide +kernel

theorem iblk_0 (c : Dev nD) (t : Fin cfg0.N) : iblk m c 0 t = argDyR m c := by
  obtain ⟨a0, a1, b0, c0, c1, c2, d0, d1, -⟩ := index0 t
  funext y
  blk_ext! [iblk, a0, a1, b0, c0, c1, c2, d0, d1]
theorem iblk_1 (c : Dev nD) (t : Fin cfg0.N) : iblk m c 1 t = argGsR m c := by
  obtain ⟨a0, a1, b0, c0, c1, c2, d0, d1, -⟩ := index0 t
  funext y
  blk_ext! [iblk, a0, a1, b0, c0, c1, c2, d0, d1]
theorem iblk_2 (c : Dev nD) (t : Fin cfg0.N) : iblk m c 2 t = argWR m c := by
  obtain ⟨a0, a1, b0, c0, c1, c2, d0, d1, -⟩ := index0 t
  funext y
  blk_ext! [iblk, a0, a1, b0, c0, c1, c2, d0, d1]
theorem iblk_3 (c : Dev nD) (t : Fin cfg0.N) : iblk m c 3 t = argWsR m c := by
  obtain ⟨a0, a1, b0, c0, c1, c2, d0, d1, -⟩ := index0 t
  funext y
  blk_ext! [iblk, a0, a1, b0, c0, c1, c2, d0, d1]

theorem result_arr (c : Dev nD) (hg : S (sizesOf (argGsR m c)) 13 = 4096)
    (hv : ∀ (R : Fin 4096) (k : Fin 7168), max (argDyR m c (ValueIdx.ix2 R k)) (-argDyR m c (ValueIdx.ix2 R k)) ≤ (bfMax : EReal)) :
    (dats m 0 c).arrAt 4 cfg0.N = fun i : S4096x2048.Idx => dgradR (argDyR m c) (argWR m c) (argWsR m c) (expertR (argGsR m c) hg (i 0)) (i 0) (i 1) := by
  refine (dats m 0 c).arrAt_eq_of_covers 4 _ (by decide +kernel) fun t hf y => ?_
  blk_simp
  rw [after0_4]
  unfold outsAt0
  rw [out_eq, iblk_0, iblk_1, iblk_2, iblk_3]
  obtain ⟨-, -, -, -, -, -, -, -, e0, e1⟩ := index0 t
  have h0 : (win0_4.blk t).view.emb y 0 = (⟨(y 0).val, (y 0).isLt⟩ : Fin 4096) := Fin.ext (by blk_simp [e0])
  have h1 : (win0_4.blk t).view.emb y 1 = (⟨(y 1).val, (y 1).isLt⟩ : Fin 2048) := Fin.ext (by blk_simp [e1])
  rw [h0, h1]
  exact stored_value _ _ _ _ hg hv y

/-- THE RUN, with its value. -/
theorem run_value (hg : ∀ c, S (sizesOf (argGsR m c)) 13 = 4096)
    (hv : ∀ (c : Dev nD) (R : Fin 4096) (k : Fin 7168), max (argDyR m c (ValueIdx.ix2 R k)) (-argDyR m c (ValueIdx.ix2 R k)) ≤ (bfMax : EReal)) :
    θ_run defs (onTc (τ := τ) (main (F := Ideal))) ⟨m, fun _ => 0, ρ⟩ fun r => ∀ c : Dev nD,
      (r.2.mem ((c.tc : Thread nD τ).loc main_v0) : FVec Ideal S4096x2048 .bf16)
          = (fun i => dgradR (argDyR m c) (argWR m c) (argWsR m c) (expertR (argGsR m c) (hg c) (i 0)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (result_arr m c (hg c) (hv c)), (h c).2⟩) (Cert.ReferenceIdeal.Value.run_blocks m ρ)

end Cert.ReferenceIdeal.Gen

end
-- ==== Proof.BitsTables.lean ====
/-
  The tables that the second region is entered with, read as natural numbers: each operation of the host arithmetic at an index, then the
  four tables' words as `Cert.Dgrad`'s `tile`, `grp` and the prefix sums of the group sizes.
-/
module

public import proofs.«01_k».proof.Proof.TableNat
public import proofs.«01_k».proof.Proof.Gen.Kernel.Regions
public import Idealize.ShloMosaic.Lib.Routing.Main
public import Idealize.ShloMosaic.Lib.StableHlo.ReadAt

@[expose] public section

set_option maxRecDepth 16384

noncomputable section

namespace Cert.Kernel.Gen

open Idealize.ShloMosaic Idealize.ShloMosaic.TcCoe Idealize.ShloMosaic.Tactic
open Idealize.ShloMosaic.Routing Idealize.ShloMosaic.WordCmp
open Cert.Dgrad (S nv idx grp tile)

variable {F : FTy → Type} [FloatOps F]

/-! ## What each stretch of host operations computes, from any contents -/

section Stretches
variable (W : Valuation τ sig (Elt F))

/-- `jnp.cumsum` of thirteen words. -/
abbrev cumsumW (x : IVec S13 32) : IVec S13 32 :=
  Host.reduceWindow IntOp.addi ![13] ![1] ![12] ![0] x (broadcastInDim S_ ![] bcast_S_S_ (constantI S_ 32 0#32)) reduceWindows_S13_S13_w13s1p12_0 h_S_

/-- `x[i]` for twenty indices into thirteen words. -/
abbrev takeW (x : IVec S13 32) (i : IVec S20 32) : IVec S20 32 :=
  Host.gather gather_S13_S20x1_S20_n_0_n_n_0_1_1 x (broadcastInDim S20x1 ![0] bcast_S20_S20x1_0
    (select (cmpi .slt i (broadcastInDim S20 ![] bcast_S_S20 (constantI S_ 32 0#32))) (addi i (broadcastInDim S20 ![] bcast_S_S20 (constantI S_ 32 13#32))) i))

theorem stretch0 : StableHlo.after hostOps1 W (Proc.devRef .tc main_v1) = cumsumW (W (Proc.devRef .tc main_arg1)) := by
  after_reads_simp
  simp -implicitDefEqProofs only [StableHlo.TRef.toBuf, StableHlo.TRef.ofBuf, cast_cast, cast_eq]

theorem stretch1 : StableHlo.after hostOps1_1 W (Proc.devRef .tc main_v2) = subi (W (Proc.devRef .tc main_v1) : IVec S13 32) (W (Proc.devRef .tc main_arg1)) := by
  after_reads_simp

theorem stretch1_c : StableHlo.after hostOps1_1 W (Proc.devRef .tc main_c) = constantI S_ 32 512#32 := by
  after_reads_simp

theorem stretch2 : StableHlo.after hostOps1_2 W (Proc.devRef .tc main_v3) = pyDiv bcast_S_S13 (W (Proc.devRef .tc main_v2)) (W (Proc.devRef .tc main_c)) := by
  after_reads_simp
  simp -implicitDefEqProofs only [StableHlo.TRef.toBuf, StableHlo.TRef.ofBuf, cast_cast, cast_eq]
  rfl

theorem stretch3 : StableHlo.after hostOps1_3 W (Proc.devRef .tc main_v5)
    = cmpi .sgt (W (Proc.devRef .tc main_arg1) : IVec S13 32) (broadcastInDim S13 ![] bcast_S_S13 (constantI S_ 32 0#32)) := by
  after_reads_simp

theorem stretch3_v9 : StableHlo.after hostOps1_3 W (Proc.devRef .tc main_v9)
    = subi (addi (W (Proc.devRef .tc main_v1) : IVec S13 32) (broadcastInDim S13 ![] bcast_S_S13 (constantI S_ 32 512#32)))
        (broadcastInDim S13 ![] bcast_S_S13 (constantI S_ 32 1#32)) := by
  after_reads_simp

theorem stretch3_c : StableHlo.after hostOps1_3 W (Proc.devRef .tc main_c_3) = constantI S_ 32 512#32 := by
  after_reads_simp

theorem stretch4 : StableHlo.after hostOps1_4 W (Proc.devRef .tc main_v10) = pyDiv bcast_S_S13 (W (Proc.devRef .tc main_v9)) (W (Proc.devRef .tc main_c_3)) := by
  after_reads_simp
  simp -implicitDefEqProofs only [StableHlo.TRef.toBuf, StableHlo.TRef.ofBuf, cast_cast, cast_eq]
  rfl

theorem stretch5 : StableHlo.after hostOps1_5 W (Proc.devRef .tc main_v11) = subi (W (Proc.devRef .tc main_v10) : IVec S13 32) (W (Proc.devRef .tc main_v3)) := by
  after_reads_simp

theorem stretch5_c : StableHlo.after hostOps1_5 W (Proc.devRef .tc main_c_4) = constantI S_ 32 0#32 := by
  after_reads_simp

theorem stretch6 : StableHlo.after hostOps1_6 W (Proc.devRef .tc main_v12)
    = select (W (Proc.devRef .tc main_v5) : IVec S13 1) (W (Proc.devRef .tc main_v11) : IVec S13 32) (broadcastInDim S13 ![] bcast_S_S13 (W (Proc.devRef .tc main_c_4) : IVec S_ 32)) := by
  after_reads_simp
  simp -implicitDefEqProofs only [StableHlo.TRef.toBuf, StableHlo.TRef.ofBuf, cast_cast, cast_eq]
  rfl

theorem stretch7 : StableHlo.after hostOps1_7 W (Proc.devRef .tc main_v13) = cumsumW (W (Proc.devRef .tc main_v12)) := by
  after_reads_simp
  simp -implicitDefEqProofs only [StableHlo.TRef.toBuf, StableHlo.TRef.ofBuf, cast_cast, cast_eq]

theorem stretch8 : StableHlo.after hostOps1_8 W (Proc.devRef .tc main_v19)
    = minsi (iotaInDim S20 32 0) (broadcastInDim S20 ![] bcast_S_S20
        (subi (shapeCast S_ (extractStridedSlice S1 ![12] (W (Proc.devRef .tc main_v13) : IVec S13 32) slices_S13_S1_12) shapeCasts_S1_S_) (constantI S_ 32 1#32))) := by
  after_reads_simp
  rfl

theorem stretch9 : StableHlo.after hostOps1_9 W (Proc.devRef .tc main_v20)
    = Host.reduce IntOp.addi (extui 32 (cmpi .sle
        (broadcastInDim S13x20 ![0, 1] bcast_S13x1_S13x20_0_1 (broadcastInDim S13x1 ![0] bcast_S13_S13x1_0 (W (Proc.devRef .tc main_v13) : IVec S13 32)))
        (broadcastInDim S13x20 ![0, 1] bcast_S1x20_S13x20_0_1 (broadcastInDim S1x20 ![1] bcast_S20_S1x20_1 (W (Proc.devRef .tc main_v19) : IVec S20 32)))) natLt_1_32)
        (constantI S_ 32 0#32) reducesTo_S13x20_S20_d0 h_S_ := by
  after_reads_simp
  simp -implicitDefEqProofs only [StableHlo.TRef.toBuf, StableHlo.TRef.ofBuf, cast_cast, cast_eq]

theorem stretch10_tile : StableHlo.after hostOps1_10 W (Proc.devRef .tc main_v44)
    = subi (addi (takeW (W (Proc.devRef .tc main_v3)) (W (Proc.devRef .tc main_v20))) (W (Proc.devRef .tc main_v19)))
        (subi (takeW (W (Proc.devRef .tc main_v13)) (W (Proc.devRef .tc main_v20))) (takeW (W (Proc.devRef .tc main_v12)) (W (Proc.devRef .tc main_v20)))) := by
  after_reads_simp

theorem stretch10_lo : StableHlo.after hostOps1_10 W (Proc.devRef .tc main_v51) = takeW (W (Proc.devRef .tc main_v2)) (W (Proc.devRef .tc main_v20)) := by
  after_reads_simp

theorem stretch10_hi : StableHlo.after hostOps1_10 W (Proc.devRef .tc main_v58) = takeW (W (Proc.devRef .tc main_v1)) (W (Proc.devRef .tc main_v20)) := by
  after_reads_simp

theorem stretch10_ws : StableHlo.after hostOps1_10 W (Proc.devRef .tc main_v59)
    = shapeCast S13x1x2048 (W (Proc.devRef .tc main_arg3) : Vec F S13x2048 .f32) shapeCasts_S13x2048_S13x1x2048 := by
  after_reads_simp
  rfl

end Stretches

/-! ## The tables' words -/

section Words
variable (m : (ℓ : Loc nD τ sig) → Buf (Elt F) ℓ) (outs : Outs (F := F)) (c : Dev nD)

/-- `x` holds the numbers `f 0 … f (n - 1)`. -/
abbrev Holds {n : Nat} (x : IVec (shape1 n) 32) (f : ℕ → ℕ) : Prop := ∀ i : Fin n, x (ValueIdx.ix1 i) = BitVec.ofNat 32 (f i.val)

theorem cumsumW_holds {x : IVec S13 32} {f : ℕ → ℕ} (hx : Holds x f) : Holds (cumsumW x) fun k => S f (k + 1) := fun i =>
  cumsum1 (N := 13) (Nm1 := 12) rfl x f hx _ rfl _ _ i

theorem takeW_holds {x : IVec S13 32} {f : ℕ → ℕ} (hx : Holds x f) {i : IVec S20 32} {e : ℕ → ℕ} (hi : Holds i e) (he : ∀ j, e j < 13) :
    Holds (takeW x i) fun j => f (e j) := fun j => by
  refine (gather_take1 gather_S13_S20x1_S20_n_0_n_n_0_1_1 rfl rfl rfl rfl x _ j ⟨e j, he j⟩ ?_ (by decide)).trans (hx ⟨e j, he j⟩)
  rw [bcCol, select_at, cmpi_at, bc0, hi j, constantI_at, show (0#32 : BitVec 32) = BitVec.ofNat 32 0 from rfl,
    cmpi_slt_ofNat (w := 32) (by have := he j; omega) (by decide), select_decide, if_neg (Nat.not_lt_zero _)]

theorem subi_holds {n : Nat} {x y : IVec (shape1 n) 32} {f h : ℕ → ℕ} (hx : Holds x f) (hy : Holds y h) (hle : ∀ i < n, h i ≤ f i) :
    Holds (subi x y) fun i => f i - h i := fun i => by
  rw [subi_ap, hx i, hy i, ofNat32_sub (hle i i.isLt)]

theorem addi_holds {n : Nat} {x y : IVec (shape1 n) 32} {f h : ℕ → ℕ} (hx : Holds x f) (hy : Holds y h) :
    Holds (addi x y) fun i => f i + h i := fun i => by
  rw [addi_ap, hx i, hy i, BitVec.ofNat_add]

theorem div512_holds {x : IVec S13 32} {d : IVec S_ 32} {f : ℕ → ℕ} (hx : Holds x f) (hd : d ValueIdx.ix0 = 512#32) (hf : ∀ i < 13, f i < 2 ^ 31) :
    Holds (pyDiv bcast_S_S13 x d) fun i => f i / 512 := fun i =>
  pyDiv_ap bcast_S_S13 x d (ValueIdx.ix1 i) (hx i) hd (hf i i.isLt) (by decide) (by decide)

/-- The group sizes as the program is given them, as numbers. -/
def sizes (k : ℕ) : ℕ := if h : k < 13 then (m ((c.tc : Thread nD τ).loc main_arg1) (ValueIdx.ix1 (⟨k, h⟩ : Fin 13)) : BitVec 32).toNat else 0

theorem sizes_holds : Holds (m ((c.tc : Thread nD τ).loc main_arg1) : IVec S13 32) (sizes m c) := fun i => by
  unfold sizes
  rw [dif_pos i.isLt]
  exact (BitVec.ofNat_toNat 32 _).symm ▸ (BitVec.setWidth_eq _).symm

variable (hg : S (sizes m c) 13 = 4096)

theorem V_arg1 : V3 m outs c main_arg1 = m ((c.tc : Thread nD τ).loc main_arg1) := by
  rw [V3_of m outs c main_arg1 (by decide), V2_of m outs c main_arg1 (by decide), V1_of m outs c main_arg1 (by decide)]

/-- The groups' ends. -/
theorem holds_v1 : Holds (V2 m outs c main_v1 : IVec S13 32) fun k => S (sizes m c) (k + 1) := by
  rw [show V2 m outs c main_v1 = cumsumW (V1 m outs c main_arg1) from stretch0 (V1 m outs c), V1_of m outs c main_arg1 (by decide)]
  exact cumsumW_holds (sizes_holds m c)

/-- The groups' first rows. -/
theorem holds_v2 : Holds (V3 m outs c main_v2 : IVec S13 32) fun k => S (sizes m c) k := by
  rw [show V3 m outs c main_v2 = subi (V2 m outs c main_v1 : IVec S13 32) (V2 m outs c main_arg1) from stretch1 (V2 m outs c),
    V2_of m outs c main_arg1 (by decide), V1_of m outs c main_arg1 (by decide)]
  intro i
  refine (subi_holds (holds_v1 m outs c) (sizes_holds m c) (fun i _ => ?_) i).trans ?_
  · rw [Cert.Dgrad.S_succ]; omega
  · show BitVec.ofNat 32 (S (sizes m c) (i.val + 1) - sizes m c i.val) = _
    rw [Cert.Dgrad.S_succ, Nat.add_sub_cancel]

include hg in
theorem S_le {k : ℕ} (h : k ≤ 13) : S (sizes m c) k ≤ 4096 := (Cert.Dgrad.S_mono _ h).trans hg.le

include hg in
/-- The groups' first tiles. -/
theorem holds_v3 : Holds (V4 m outs c main_v3 : IVec S13 32) fun k => S (sizes m c) k / 512 := by
  rw [show V4 m outs c main_v3 = pyDiv bcast_S_S13 (V3 m outs c main_v2) (V3 m outs c main_c) from stretch2 (V3 m outs c)]
  refine div512_holds (holds_v2 m outs c) ?_ fun i hi => by have := S_le m c hg (show i ≤ 13 by omega); omega
  rw [show V3 m outs c main_c = constantI S_ 32 512#32 from stretch1_c (V2 m outs c)]
  rfl

include hg in
/-- One past the groups' last tiles. -/
theorem holds_v10 : Holds (V6 m outs c main_v10 : IVec S13 32) fun k => (S (sizes m c) (k + 1) + 511) / 512 := by
  rw [show V6 m outs c main_v10 = pyDiv bcast_S_S13 (V5 m outs c main_v9) (V5 m outs c main_c_3) from stretch4 (V5 m outs c)]
  refine div512_holds ?_ ?_ fun i hi => by have := S_le m c hg (show i + 1 ≤ 13 by omega); omega
  · rw [show V5 m outs c main_v9 = _ from stretch3_v9 (V4 m outs c), V4_of m outs c main_v1 (by decide), V3_of m outs c main_v1 (by decide)]
    intro i
    rw [subi_ap, addi_ap, bc0, bc0, constantI_at, constantI_at, holds_v1 m outs c i,
      show (512#32 : BitVec 32) = BitVec.ofNat 32 512 from rfl, show (1#32 : BitVec 32) = BitVec.ofNat 32 1 from rfl, ← BitVec.ofNat_add, ofNat32_sub (by omega)]
    rfl
  · rw [show V5 m outs c main_c_3 = constantI S_ 32 512#32 from stretch3_c (V4 m outs c)]
    rfl

include hg in
/-- The groups' numbers of visits. -/
theorem holds_v12 : Holds (V8 m outs c main_v12 : IVec S13 32) (nv (sizes m c)) := by
  rw [show V8 m outs c main_v12 = _ from stretch6 (V7 m outs c),
    show V7 m outs c main_v11 = subi (V6 m outs c main_v10 : IVec S13 32) (V6 m outs c main_v3) from stretch5 (V6 m outs c),
    show V7 m outs c main_c_4 = constantI S_ 32 0#32 from stretch5_c (V6 m outs c),
    V7_of m outs c main_v5 (by decide), V6_of m outs c main_v5 (by decide), show V5 m outs c main_v5 = _ from stretch3 (V4 m outs c),
    V6_of m outs c main_v3 (by decide), V5_of m outs c main_v3 (by decide), V4_of m outs c main_arg1 (by decide), V_arg1]
  intro i
  have hi := i.isLt
  have hs := Cert.Dgrad.S_succ (sizes m c) i
  have hb := S_le m c hg (show i.val + 1 ≤ 13 by omega)
  have hd := subi_holds (holds_v10 m outs c hg) (holds_v3 m outs c hg) (fun i _ => by have := Cert.Dgrad.S_succ (sizes m c) i; omega) i
  rw [select_at, cmpi_at, bc0, constantI_at, sizes_holds m c i, hd, show (0#32 : BitVec 32) = BitVec.ofNat 32 0 from rfl,
    cmpi_sgt_ofNat (w := 32) (by omega) (by decide), select_decide]
  unfold nv
  split <;> rfl

include hg in
/-- The visits up to each group's end. -/
theorem holds_v13 : Holds (V9 m outs c main_v13 : IVec S13 32) fun k => S (nv (sizes m c)) (k + 1) := by
  rw [show V9 m outs c main_v13 = cumsumW (V8 m outs c main_v12) from stretch7 (V8 m outs c)]
  exact cumsumW_holds (holds_v12 m outs c hg)

include hg in
/-- The visit each entry lists. -/
theorem holds_v19 : Holds (V10 m outs c main_v19 : IVec S20 32) (idx (sizes m c)) := by
  rw [show V10 m outs c main_v19 = _ from stretch8 (V9 m outs c)]
  intro i
  have hpos := Cert.Dgrad.visits_pos hg
  have hle := Cert.Dgrad.visits_le hg
  have hi := i.isLt
  have e : (shapeCast S_ (extractStridedSlice S1 ![12] (V9 m outs c main_v13 : IVec S13 32) slices_S13_S1_12) shapeCasts_S1_S_ : IVec S_ 32) ValueIdx.ix0
      = BitVec.ofNat 32 (S (nv (sizes m c)) 13) := by
    refine Eq.trans ?_ (holds_v13 m outs c hg (12 : Fin 13))
    refine (shapeCast_apply _ shapeCasts_S1_S_ ValueIdx.ix0 (ValueIdx.ix1 (0 : Fin 1)) (by decide)).trans ?_
    exact slice1 12 _ slices_S13_S1_12 (0 : Fin 1) (by decide)
  rw [minsi_apply, bc0, subi_ap, e, constantI_at, iota1_ap, show (1#32 : BitVec 32) = BitVec.ofNat 32 1 from rfl, ofNat32_sub (by omega)]
  unfold IntOp.minsi
  rw [slt_ofNat32 (by omega) (by omega)]
  unfold idx
  split <;> rename_i h <;> simp only [decide_eq_true_eq] at h <;> congr 1 <;> omega

/-- `jnp.searchsorted(x, y, side="right")` by comparison with every entry of `x`. -/
abbrev searchW (x : IVec S13 32) (y : IVec S20 32) : IVec S20 32 :=
  Host.reduce IntOp.addi (extui 32 (cmpi .sle
    (broadcastInDim S13x20 ![0, 1] bcast_S13x1_S13x20_0_1 (broadcastInDim S13x1 ![0] bcast_S13_S13x1_0 x))
    (broadcastInDim S13x20 ![0, 1] bcast_S1x20_S13x20_0_1 (broadcastInDim S1x20 ![1] bcast_S20_S1x20_1 y))) natLt_1_32)
    (constantI S_ 32 0#32) reducesTo_S13x20_S20_d0 h_S_

theorem searchW_holds {x : IVec S13 32} {y : IVec S20 32} {f e : ℕ → ℕ} (hx : Holds x f) (hy : Holds y e)
    (hf : ∀ k < 13, f k < 2 ^ 31) (he : ∀ j < 20, e j < 2 ^ 31) : Holds (searchW x y) fun j => Nat.count (fun k => f k ≤ e j) 13 := fun q => by
  refine BitVec.eq_of_toNat_eq ?_
  refine (StableHlo.Predicate.toNat_reduce_count_rows (n := 13) (m := 20) (by decide) _ natLt_1_32 reducesTo_S13x20_S20_d0 h_S_ (ValueIdx.ix1 q)).trans ?_
  rw [BitVec.toNat_ofNat, Nat.mod_eq_of_lt (lt_of_le_of_lt (Nat.count_le _) (by decide)), ← card_filter_fin 13]
  refine congrArg Finset.card (Finset.filter_congr fun p _ => ?_)
  have e1 : broadcastInDim S13x20 ![0, 1] bcast_S13x1_S13x20_0_1 (broadcastInDim S13x1 ![0] bcast_S13_S13x1_0 x) (ValueIdx.ix2 p q) = BitVec.ofNat 32 (f p) :=
    (bcRows bcast_S13_S13x1_0 bcast_S13x1_S13x20_0_1 x p q).trans (hx p)
  have e2 : broadcastInDim S13x20 ![0, 1] bcast_S1x20_S13x20_0_1 (broadcastInDim S1x20 ![1] bcast_S20_S1x20_1 y) (ValueIdx.ix2 p q) = BitVec.ofNat 32 (e q) :=
    (bcCols bcast_S20_S1x20_1 bcast_S1x20_S13x20_0_1 y p q).trans (hy q)
  rw [show (ValueIdx.ix1 q : S20.Idx) 0 = q from rfl, ij_eq_ix2, cmpi_at, e1, e2]
  exact cmpi_sle_ofNat_eq_one_iff (w := 32) (hf p p.isLt) (he q q.isLt)

include hg in
/-- The group of each entry's visit. -/
theorem holds_v20 : Holds (V11 m outs c main_v20 : IVec S20 32) (grp (sizes m c)) := by
  rw [show V11 m outs c main_v20 = searchW (V10 m outs c main_v13) (V10 m outs c main_v19) from stretch9 (V10 m outs c), V10_of m outs c main_v13 (by decide)]
  have hle := Cert.Dgrad.visits_le hg
  exact searchW_holds (holds_v13 m outs c hg) (holds_v19 m outs c hg)
    (fun k hk => by have := Cert.Dgrad.S_mono (nv (sizes m c)) (show k + 1 ≤ 13 by omega); omega) fun j _ => by unfold idx; omega

include hg in
theorem holds_v20_end : Holds (V12 m outs c main_v20 : IVec S20 32) (grp (sizes m c)) := by
  rw [V12_of m outs c main_v20 (by decide)]
  exact holds_v20 m outs c hg

include hg in
/-- The tile of each entry's visit. -/
theorem holds_v44 : Holds (V12 m outs c main_v44 : IVec S20 32) (tile (sizes m c)) := by
  have hg' := fun j => Cert.Dgrad.grp_lt hg j
  rw [show V12 m outs c main_v44 = _ from stretch10_tile (V11 m outs c),
    V11_of m outs c main_v3 (by decide), V10_of m outs c main_v3 (by decide), V9_of m outs c main_v3 (by decide), V8_of m outs c main_v3 (by decide),
    V7_of m outs c main_v3 (by decide), V6_of m outs c main_v3 (by decide), V5_of m outs c main_v3 (by decide),
    V11_of m outs c main_v19 (by decide), V11_of m outs c main_v13 (by decide), V10_of m outs c main_v13 (by decide),
    V11_of m outs c main_v12 (by decide), V10_of m outs c main_v12 (by decide), V9_of m outs c main_v12 (by decide)]
  have h20 := holds_v20 m outs c hg
  intro j
  refine (subi_holds (addi_holds (takeW_holds (holds_v3 m outs c hg) h20 hg') (holds_v19 m outs c hg))
    (subi_holds (takeW_holds (holds_v13 m outs c hg) h20 hg') (takeW_holds (holds_v12 m outs c hg) h20 hg') fun j _ => ?_) (fun j _ => ?_) j).trans ?_
  · rw [Cert.Dgrad.S_succ]; omega
  · have := (Cert.Dgrad.grp_spec hg j).2.1
    rw [Cert.Dgrad.S_succ]; omega
  · unfold tile
    show BitVec.ofNat 32 (S (sizes m c) (grp (sizes m c) j) / 512 + idx (sizes m c) j - (S (nv (sizes m c)) (grp (sizes m c) j + 1) - nv (sizes m c) (grp (sizes m c) j))) = _
    rw [Cert.Dgrad.S_succ, Nat.add_sub_cancel]

include hg in
/-- The first row of each entry's group. -/
theorem holds_v51 : Holds (V12 m outs c main_v51 : IVec S20 32) fun j => S (sizes m c) (grp (sizes m c) j) := by
  rw [show V12 m outs c main_v51 = _ from stretch10_lo (V11 m outs c),
    V11_of m outs c main_v2 (by decide), V10_of m outs c main_v2 (by decide), V9_of m outs c main_v2 (by decide), V8_of m outs c main_v2 (by decide),
    V7_of m outs c main_v2 (by decide), V6_of m outs c main_v2 (by decide), V5_of m outs c main_v2 (by decide), V4_of m outs c main_v2 (by decide)]
  exact takeW_holds (holds_v2 m outs c) (holds_v20 m outs c hg) fun j => Cert.Dgrad.grp_lt hg j

include hg in
/-- One past the last row of each entry's group. -/
theorem holds_v58 : Holds (V12 m outs c main_v58 : IVec S20 32) fun j => S (sizes m c) (grp (sizes m c) j + 1) := by
  rw [show V12 m outs c main_v58 = _ from stretch10_hi (V11 m outs c),
    V11_of m outs c main_v1 (by decide), V10_of m outs c main_v1 (by decide), V9_of m outs c main_v1 (by decide), V8_of m outs c main_v1 (by decide),
    V7_of m outs c main_v1 (by decide), V6_of m outs c main_v1 (by decide), V5_of m outs c main_v1 (by decide), V4_of m outs c main_v1 (by decide),
    V3_of m outs c main_v1 (by decide)]
  exact takeW_holds (holds_v1 m outs c) (holds_v20 m outs c hg) fun j => Cert.Dgrad.grp_lt hg j

end Words

end Cert.Kernel.Gen

end
-- ==== Proof.BitsQuantRegion.lean ====
/-
  THE FIRST KERNEL REGION (row quantiser): what it leaves, block by block, and its body obligation, over the valuation `V` at
  which the region is entered. A point reads one block of 128 rows and stores the block's codes and its rows' scales whole.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (V : Dev nD → Valuation τ sig (Elt F))

/-! ## The body -/

abbrev r0_0 : Rect S128x7168 := Rect.unit (s := S128x7168) ![0, 0] S128x7168.size inb_S128x7168_S128x7168_0_0
abbrev r0_1 : Rect S128x128 := Rect.unit (s := S128x128) ![0, 0] S128x128.size inb_S128x128_S128x128_0_0

/-- The block of codes the body stores for a block `x0` of rows. -/
def out0_1 (x0 : Vec F S128x7168 .bf16) : Vec F S128x7168 .fp8e5m2 :=
  View.canon [⟨r0_0, k0_pay1 (k0_pay5 (View.ld x0 r0_0)) k0_pay6⟩]

/-- The one store covers the block. -/
theorem cover0_1 (p0 : Vec F S128x7168 .fp8e5m2) (y : S128x7168.Idx) :
    ∃ pc ∈ ([⟨r0_0, p0⟩] : List (View.Piece (Elt F) S128x7168 .fp8e5m2)), y ∈ pc.1.set :=
  View.cover_of_tiled [⟨r0_0, p0⟩] S128x7168.size (by rfl) y

/-- The block of scales the body stores for a block `x0` of rows, one scale a row, along the lanes. -/
def out0_2 (x0 : Vec F S128x7168 .bf16) : Vec F S128x128 .f32 :=
  View.canon [⟨r0_1, k0_pay2 (k0_pay4 (View.ld x0 r0_0))⟩]

/-- The one store covers the block. -/
theorem cover0_2 (p0 : Vec F S128x128 .f32) (y : S128x128.Idx) :
    ∃ pc ∈ ([⟨r0_1, p0⟩] : List (View.Piece (Elt F) S128x128 .f32)), y ∈ pc.1.set :=
  View.cover_of_tiled [⟨r0_1, p0⟩] S128x128.size (by rfl) y

set_option maxHeartbeats 1000000 in
/-- The body's triple on whole staging memrefs. -/
theorem sound_quant (c : Dev nD) (E : Set ℕ) (i : grid0.Coords) (arg1 : Memref sig .tc .vmem S128x7168 .bf16) (harg1 : arg1.IsWhole) (arg2 : Memref sig .tc .vmem S128x7168 .fp8e5m2) (harg2 : arg2.IsWhole) (arg3 : Memref sig .tc .vmem S128x128 .f32) (harg3 : arg3.IsWhole)
    (x0 : Vec F S128x7168 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant i arg1 harg1 arg2 harg2 arg3 harg3) K := by
  simp only [cc0_quant_eq_skeleton]; unfold cc0_quant_skel
  simp only [k0_part1_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The region's proof data -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The proof data: the input's buffer keeps its block, each output's is the body's value of it. -/
def dats0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem dats0_A (c : Dev nD) (w : Fin cfg0.W) : (dats0 V c).A w = V c (Proc.devRef .tc (Pipeline.arrRef spec0 w)) := by
  dsimp only [dats0]

theorem after0_0 (c : Dev nD) (t : Fin cfg0.N) : (dats0 V c).after 0 t = iblk0 V c 0 t := by dsimp only [dats0]
theorem after0_1 (c : Dev nD) (t : Fin cfg0.N) : (dats0 V c).after 1 t = out0_1 (iblk0 V c 0 t) := by dsimp only [dats0]
theorem after0_2 (c : Dev nD) (t : Fin cfg0.N) : (dats0 V c).after 2 t = out0_2 (iblk0 V c 0 t) := by dsimp only [dats0]

/-- The input's buffer holds its block at every point. -/
theorem before0_0 (c : Dev nD) (t : Fin cfg0.N) (d) : (dats0 V c).before 0 t d = iblk0 V c 0 t :=
  ((dats0 V c).before_in_eq_fetched 0 rfl (fun _ => rfl) (fun _ _ _ => rfl)
      (fun t => by rw [after0_0]; unfold Dat.blockOf iblk0; rw [dats0_A]; try rfl) t d).trans
    (by unfold Dat.fetched Dat.blockOf iblk0; rw [dats0_A]; try rfl)

def bodyPre0 (c : Dev nD) (t : Fin cfg0.N) : sProp 𝕄 :=
  iprop((dats0 V c).Φ t.castSucc ∗ (dats0 V c).owesAt () t.castSucc
    ∗ (∃ d, owns (c : Thread nD τ) (st0_0 t) fullShare ((dats0 V c).before 0 t d))
    ∗ (∃ d, owns (c : Thread nD τ) (st0_1 t) fullShare ((dats0 V c).before 1 t d))
    ∗ (∃ d, owns (c : Thread nD τ) (st0_2 t) fullShare ((dats0 V c).before 2 t d)))

def bodyPost0 (c : Dev nD) (t : Fin cfg0.N) : sProp 𝕄 :=
  iprop((dats0 V c).Φ t.succ ∗ (dats0 V c).owesAt () t.succ
    ∗ owns (c : Thread nD τ) (st0_0 t) fullShare ((dats0 V c).after 0 t)
    ∗ owns (c : Thread nD τ) (st0_1 t) fullShare ((dats0 V c).after 1 t)
    ∗ owns (c : Thread nD τ) (st0_2 t) fullShare ((dats0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dats0 V c).Φ t.succ = (dats0 V c).Φ t.castSucc from rfl,
    show (dats0 V c).owesAt () t.succ = (dats0 V c).owesAt () t.castSucc from rfl,
    after0_0, after0_1, after0_2]
  iintro ⟨HΦ, Ho, ⟨%d0, H0⟩, ⟨%d1, H1⟩, ⟨%d2, H2⟩⟩
  iapply (sound_quant c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row0 (t : Fin cfg0.N) :
    defs₀ (F := F) .tc cfg0.body (cfg0.bodyArgs t (cfg0.slots t)) = bodyAt0 t := by
  unfold defs₀; rw [Defs.onTc_tc]

/-- The body obligation at every point. -/
theorem body_obligation0 (c : Dev nD) : BodyObligation (dats0 (F := F) V c) (defs₀ (F := F)) Variants.none () Set.univ := fun t => by
  rw [bigSep_W0, bigSep_W0, defs₀_row0]
  exact triple_restated (sound_body0 V c t) rfl .rfl fun _ => .rfl

end Cert.Kernel.Gen

end
-- ==== Proof.BitsGmmRegion.lean ====
/-
  THE SECOND KERNEL REGION (grouped matrix product): what its body does to the output block it merges into, and its body obligation,
  over the valuation `V` at which the region is entered and the contents `pf` of the four prefetched tables. Window 4, the output, is
  revisited: the body reads the block and stores it again with the visit's rows replaced, so of it the proof data state a predicate
  `Rl`, which has to follow for the stored block from what the body may have found there.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.DatRel
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-! ## The body -/

abbrev tbM0 : Memref sig .tc .smem S20 .i32 := Memref.whole main_v44
abbrev tbM1 : Memref sig .tc .smem S20 .i32 := Memref.whole main_v20
abbrev tbM2 : Memref sig .tc .smem S20 .i32 := Memref.whole main_v51
abbrev tbM3 : Memref sig .tc .smem S20 .i32 := Memref.whole main_v58

/-- A table held whole at the contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

/-- Table `k`'s word for the visit of point `i`. -/
def word1 (pf : pre1.Contents (Elt F)) (k : Fin 4) (i : grid1.Coords) : BitVec 32 :=
  match k with
  | 0 => pf.at 0 (Rect.unit (s := S20) (k1_off1 i) S1.size (k1_off1_inb i)) numel1_S1
  | 1 => pf.at 1 (Rect.unit (s := S20) (k1_off1 i) S1.size (k1_off1_inb i)) numel1_S1
  | 2 => pf.at 2 (Rect.unit (s := S20) (k1_off1 i) S1.size (k1_off1_inb i)) numel1_S1
  | 3 => pf.at 3 (Rect.unit (s := S20) (k1_off1 i) S1.size (k1_off1_inb i)) numel1_S1

abbrev r1_0 : Rect S512x7168 := Rect.unit (s := S512x7168) ![0, 0] S512x7168.size inb_S512x7168_S512x7168_0_0
abbrev r1_1 : Rect S512x128 := Rect.unit (s := S512x128) ![0, 0] S512x1.size inb_S512x128_S512x1_0_0
abbrev r1_2 : Rect S1x512x7168 := Rect.unit (s := S1x512x7168) ![0, 0, 0] S1x512x7168.size inb_S1x512x7168_S1x512x7168_0_0_0
abbrev r1_3 : Rect S1x1x512 := Rect.unit (s := S1x1x512) ![0, 0, 0] S1x1x512.size inb_S1x1x512_S1x1x512_0_0_0
abbrev r1_4 : Rect S512x512 := Rect.unit (s := S512x512) ![0, 0] S512x512.size inb_S512x512_S512x512_0_0

/-- The block the body stores over the block `y` it found: of the blocks of codes, scales, weights and weight scales, and the visit's
    tile and row bounds. -/
def merge1 (tl lo hi : BitVec 32) (x0 : Vec F S512x7168 .fp8e5m2) (x1 : Vec F S512x128 .f32) (x2 : Vec F S1x512x7168 .fp8e4m3)
    (x3 : Vec F S1x1x512 .f32) (y : Vec F S512x512 .bf16) : Vec F S512x512 .bf16 :=
  View.canon [⟨r1_4, k1_pay1 (View.ld x0 r1_0) (View.ld x2 r1_2) tl lo hi (View.ld x1 r1_1) (View.ld x3 r1_3) (View.ld y r1_4)⟩]

/-- The one store covers the block. -/
theorem cover1_4 (p0 : Vec F S512x512 .bf16) (y : S512x512.Idx) :
    ∃ pc ∈ ([⟨r1_4, p0⟩] : List (View.Piece (Elt F) S512x512 .bf16)), y ∈ pc.1.set :=
  View.cover_of_tiled [⟨r1_4, p0⟩] S512x512.size (by rfl) y

set_option maxHeartbeats 1000000 in
/-- The body's triple on whole staging memrefs, the output's found at `y`. -/
theorem sound_gmm (c : Dev nD) (E : Set ℕ) (i : grid1.Coords) (arg6 : Memref sig .tc .vmem S512x7168 .fp8e5m2) (harg6 : arg6.IsWhole) (arg7 : Memref sig .tc .vmem S512x128 .f32) (harg7 : arg7.IsWhole) (arg8 : Memref sig .tc .vmem S1x512x7168 .fp8e4m3) (harg8 : arg8.IsWhole) (arg9 : Memref sig .tc .vmem S1x1x512 .f32) (harg9 : arg9.IsWhole) (arg10 : Memref sig .tc .vmem S512x512 .bf16) (harg10 : arg10.IsWhole)
    (x0 : Vec F S512x7168 .fp8e5m2) (x1 : Vec F S512x128 .f32) (x2 : Vec F S1x512x7168 .fp8e4m3) (x3 : Vec F S1x1x512 .f32) (y : Vec F S512x512 .bf16)
    (pf : pre1.Contents (Elt F)) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare y
        ∗ tbPt c tbM0 (pf 0) ∗ tbPt c tbM1 (pf 1) ∗ tbPt c tbM2 (pf 2) ∗ tbPt c tbM3 (pf 3)
        ∗ (iprop(owns (c : Thread nD τ) arg6 fullShare x0 ∗ owns (c : Thread nD τ) arg7 fullShare x1 ∗ owns (c : Thread nD τ) arg8 fullShare x2 ∗ owns (c : Thread nD τ) arg9 fullShare x3
            ∗ owns (c : Thread nD τ) arg10 fullShare (merge1 (word1 pf 0 i) (word1 pf 2 i) (word1 pf 3 i) x0 x1 x2 x3 y)
            ∗ tbPt c tbM0 (pf 0) ∗ tbPt c tbM1 (pf 1) ∗ tbPt c tbM2 (pf 2) ∗ tbPt c tbM3 (pf 3)) -∗ K ⟨⟩))
      ⊢ wp frame (wpE (defs₀ (F := F)) Variants.none c none) E (cc1_gmm i tbM0 (Memref.isWhole_whole _) tbM1 (Memref.isWhole_whole _) tbM2 (Memref.isWhole_whole _) tbM3 (Memref.isWhole_whole _) arg6 harg6 arg7 harg7 arg8 harg8 arg9 harg9 arg10 harg10) K := by
  simp only [cc1_gmm_eq_skeleton]; unfold cc1_gmm_skel
  unfold owns
  iintro ⟨⟨%f0, %hf0, H0⟩, ⟨%f1, %hf1, H1⟩, ⟨%f2, %hf2, H2⟩, ⟨%f3, %hf3, H3⟩, ⟨%f4, %hf4, H4⟩, HT0, HT1, HT2, HT3, Hk⟩
  subst hf0; subst hf1; subst hf2; subst hf3; subst hf4
  sl_exec
  sl_step
  iapply Hk
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro
    exact View.read_writes_eq_canon _ _ _ (cover1_4 _)
  isplitl [HT0]; · iexact HT0
  isplitl [HT1]; · iexact HT1
  isplitl [HT2]; · iexact HT2
  iexact HT3

/-! ## The region's proof data -/

variable (V : Dev nD → Valuation τ sig (Elt F)) (a : (pcfg1 (F := F)).Adm)

/-- Window `w`'s block at point `t`, read off its array as the region finds it. -/
def iblk1 (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Proc.devRef .tc (Pipeline.arrRef spec1 w)))

/-- The output window's marker: what the body leaves there is held to a predicate instead of named. -/
def marked1 : Fin 5 → Bool := fun w => w.val == 4

/-- The proof data: the inputs' buffers keep their blocks; the tables are held whole throughout. -/
def dats1 (c : Dev nD) : Dat τ (Elt F) Unit ℕ (UR sig nD τ) ℕ (cfg1 a) c where
  A w := V c (Proc.devRef .tc (Pipeline.arrRef spec1 w))
  after w t := match w with
    | ⟨0, _⟩ => iblk1 V a c 0 t
    | ⟨1, _⟩ => iblk1 V a c 1 t
    | ⟨2, _⟩ => iblk1 V a c 2 t
    | ⟨3, _⟩ => iblk1 V a c 3 t
    | ⟨4, h⟩ => Pipeline.Dat.unnamed (cfg := cfg1 a) ⟨4, h⟩ t
  Φ _ := iprop((∃ r, prngReg c r) ∗ Pipeline.prefHeld pre1 c (fun _ => fullShare) a.1 ∗ Pipeline.scopedRest spec1 c)
  q _ := fullShare
  owed _ := 0

theorem dats1_A (c : Dev nD) (w : Fin (cfg1 a).W) : (dats1 V a c).A w = V c (Proc.devRef .tc (Pipeline.arrRef spec1 w)) := by
  dsimp only [dats1]

theorem after1_0 (c : Dev nD) (t : Fin (cfg1 a).N) : (dats1 V a c).after 0 t = iblk1 V a c 0 t := by dsimp only [dats1]; try rfl
theorem after1_1 (c : Dev nD) (t : Fin (cfg1 a).N) : (dats1 V a c).after 1 t = iblk1 V a c 1 t := by dsimp only [dats1]; try rfl
theorem after1_2 (c : Dev nD) (t : Fin (cfg1 a).N) : (dats1 V a c).after 2 t = iblk1 V a c 2 t := by dsimp only [dats1]; try rfl
theorem after1_3 (c : Dev nD) (t : Fin (cfg1 a).N) : (dats1 V a c).after 3 t = iblk1 V a c 3 t := by dsimp only [dats1]; try rfl

/-- An input's buffer holds its block at every point. -/
theorem before1_0 (c : Dev nD) (t : Fin (cfg1 a).N) (d) : (dats1 V a c).before 0 t d = iblk1 V a c 0 t :=
  ((dats1 V a c).before_in_eq_fetched 0 rfl (fun _ => rfl) (fun _ _ _ => rfl)
      (fun t => by rw [after1_0]; unfold Dat.blockOf iblk1; rw [dats1_A]; try rfl) t d).trans
    (by unfold Dat.fetched Dat.blockOf iblk1; rw [dats1_A]; try rfl)
theorem before1_1 (c : Dev nD) (t : Fin (cfg1 a).N) (d) : (dats1 V a c).before 1 t d = iblk1 V a c 1 t :=
  ((dats1 V a c).before_in_eq_fetched 1 rfl (fun _ => rfl) (fun _ _ _ => rfl)
      (fun t => by rw [after1_1]; unfold Dat.blockOf iblk1; rw [dats1_A]; try rfl) t d).trans
    (by unfold Dat.fetched Dat.blockOf iblk1; rw [dats1_A]; try rfl)
theorem before1_2 (c : Dev nD) (t : Fin (cfg1 a).N) (d) : (dats1 V a c).before 2 t d = iblk1 V a c 2 t :=
  ((dats1 V a c).before_in_eq_fetched 2 rfl (fun _ => rfl) (fun _ _ _ => rfl)
      (fun t => by rw [after1_2]; unfold Dat.blockOf iblk1; rw [dats1_A]; try rfl) t d).trans
    (by unfold Dat.fetched Dat.blockOf iblk1; rw [dats1_A]; try rfl)
theorem before1_3 (c : Dev nD) (t : Fin (cfg1 a).N) (d) : (dats1 V a c).before 3 t d = iblk1 V a c 3 t :=
  ((dats1 V a c).before_in_eq_fetched 3 rfl (fun _ => rfl) (fun _ _ _ => rfl)
      (fun t => by rw [after1_3]; unfold Dat.blockOf iblk1; rw [dats1_A]; try rfl) t d).trans
    (by unfold Dat.fetched Dat.blockOf iblk1; rw [dats1_A]; try rfl)

/-- The four tables of the invariant, one by one. -/
theorem prefHeld1_eq (c : Dev nD) (pf : pre1.Contents (Elt F)) :
    (Pipeline.prefHeld pre1 c (fun _ => fullShare) pf : sProp 𝕄)
      = iprop(tbPt c tbM0 (pf 0) ∗ tbPt c tbM1 (pf 1) ∗ tbPt c tbM2 (pf 2) ∗ tbPt c tbM3 (pf 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The body obligation -/

/-- A predicate on the output block a point leaves. -/
abbrev Pred1 : Type := Fin (cfg1 a).N → Vec F S512x512 .bf16 → Prop

/-- The predicate, as one of every window. -/
def rel1 (R : Pred1 a) : (w : Fin (cfg1 a).W) → Fin (cfg1 a).N → (((cfg1 a).win w).block.Idx → Elt F ((cfg1 a).win w).elt) → Prop
  | ⟨4, _⟩, t, X => R t X
  | _, _, _ => True

/-- The region's relational proof data. -/
abbrev rdat1 (R : Pred1 a) (c : Dev nD) : RDat τ (Elt F) Unit ℕ (UR sig nD τ) ℕ (cfg1 a) c :=
  (dats1 V a c).toRRel marked1 (rel1 a R)

/-- What the body stores at point `t` over a block `Y`. -/
abbrev stored1 (c : Dev nD) (t : Fin (cfg1 a).N) (Y : Vec F S512x512 .bf16) : Vec F S512x512 .bf16 :=
  merge1 (word1 a.1 0 (grid1.coords t)) (word1 a.1 2 (grid1.coords t)) (word1 a.1 3 (grid1.coords t))
    (iblk1 V a c 0 t) (iblk1 V a c 1 t) (iblk1 V a c 2 t) (iblk1 V a c 3 t) Y

abbrev ms1_0 (t : Fin (cfg1 a).N) := spec1_0.stage ((cfg1 a).slots t 0)
abbrev ms1_1 (t : Fin (cfg1 a).N) := spec1_1.stage ((cfg1 a).slots t 1)
abbrev ms1_2 (t : Fin (cfg1 a).N) := spec1_2.stage ((cfg1 a).slots t 2)
abbrev ms1_3 (t : Fin (cfg1 a).N) := spec1_3.stage ((cfg1 a).slots t 3)
abbrev ms1_4 (t : Fin (cfg1 a).N) := spec1_4.stage ((cfg1 a).slots t 4)

abbrev bodyAt1 (t : Fin (cfg1 a).N) : Prog (TpuEff nD τ sig (Elt F) Λ₀ .tc) PUnit :=
  cc1_gmm (grid1.coords t) tbM0 (Memref.isWhole_whole _) tbM1 (Memref.isWhole_whole _) tbM2 (Memref.isWhole_whole _) tbM3 (Memref.isWhole_whole _)
    (ms1_0 a t) (hstage1_0 (((cfg1 a).slots t 0).cast nbuf1_0)) (ms1_1 a t) (hstage1_1 (((cfg1 a).slots t 1).cast nbuf1_1))
    (ms1_2 a t) (hstage1_2 (((cfg1 a).slots t 2).cast nbuf1_2)) (ms1_3 a t) (hstage1_3 (((cfg1 a).slots t 3).cast nbuf1_3))
    (ms1_4 a t) (hstage1_4 (((cfg1 a).slots t 4).cast nbuf1_4))

def bodyPre1 (R : Pred1 a) (c : Dev nD) (t : Fin (cfg1 a).N) : sProp 𝕄 :=
  iprop((dats1 V a c).Φ t.castSucc ∗ (dats1 V a c).owesAt () t.castSucc
    ∗ (∃ d, owns (c : Thread nD τ) (ms1_0 a t) fullShare ((dats1 V a c).before 0 t d))
    ∗ (∃ d, owns (c : Thread nD τ) (ms1_1 a t) fullShare ((dats1 V a c).before 1 t d))
    ∗ (∃ d, owns (c : Thread nD τ) (ms1_2 a t) fullShare ((dats1 V a c).before 2 t d))
    ∗ (∃ d, owns (c : Thread nD τ) (ms1_3 a t) fullShare ((dats1 V a c).before 3 t d))
    ∗ (∃ Y, ⌜(rdat1 V a R c).Finds 4 t Y⌝ ∗ owns (c : Thread nD τ) (ms1_4 a t) fullShare Y))

def bodyPost1 (R : Pred1 a) (c : Dev nD) (t : Fin (cfg1 a).N) : sProp 𝕄 :=
  iprop((dats1 V a c).Φ t.succ ∗ (dats1 V a c).owesAt () t.succ
    ∗ owns (c : Thread nD τ) (ms1_0 a t) fullShare ((dats1 V a c).after 0 t)
    ∗ owns (c : Thread nD τ) (ms1_1 a t) fullShare ((dats1 V a c).after 1 t)
    ∗ owns (c : Thread nD τ) (ms1_2 a t) fullShare ((dats1 V a c).after 2 t)
    ∗ owns (c : Thread nD τ) (ms1_3 a t) fullShare ((dats1 V a c).after 3 t)
    ∗ (∃ X, ⌜R t X⌝ ∗ owns (c : Thread nD τ) (ms1_4 a t) fullShare X))

theorem sound_body1 (R : Pred1 a) (c : Dev nD) (t : Fin (cfg1 a).N)
    (hR : ∀ Y, (rdat1 V a R c).Finds 4 t Y → R t (stored1 V a c t Y)) :
    bodyPre1 V a R c t ⊢ wp frame (wpE (defs₀ (F := F)) Variants.none c none) Set.univ (bodyAt1 a t) (fun _ => bodyPost1 V a R c t) := by
  unfold bodyPre1 bodyPost1 bodyAt1
  simp only [before1_0, before1_1, before1_2, before1_3]
  rw [show (dats1 V a c).Φ t.succ = (dats1 V a c).Φ t.castSucc from rfl,
    show (dats1 V a c).owesAt () t.succ = (dats1 V a c).owesAt () t.castSucc from rfl,
    after1_0, after1_1, after1_2, after1_3]
  rw [show (dats1 V a c).Φ t.castSucc = iprop((∃ r, prngReg c r) ∗ Pipeline.prefHeld pre1 c (fun _ => fullShare) a.1 ∗ Pipeline.scopedRest spec1 c) from rfl, prefHeld1_eq]
  iintro ⟨⟨Hp, ⟨HT0, HT1, HT2, HT3⟩, Hs⟩, Ho, ⟨%d0, H0⟩, ⟨%d1, H1⟩, ⟨%d2, H2⟩, ⟨%d3, H3⟩, ⟨%Y, %hY, H4⟩⟩
  iapply (sound_gmm c Set.univ (grid1.coords t) _ _ _ _ _ _ _ _ _ _ (iblk1 V a c 0 t) (iblk1 V a c 1 t) (iblk1 V a c 2 t) (iblk1 V a c 3 t) Y a.1 _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [Hp Hs HT0 HT1 HT2 HT3]
  · isplitl [Hp]; · iexact Hp
    isplitr [Hs]
    · isplitl [HT0]; · iexact HT0
      isplitl [HT1]; · iexact HT1
      isplitl [HT2]; · iexact HT2
      iexact HT3
    iexact Hs
  isplitl [Ho]; · iexact Ho
  isplitl [H0]; · iexact H0
  isplitl [H1]; · iexact H1
  isplitl [H2]; · iexact H2
  isplitl [H3]; · iexact H3
  iexists _; isplitr; swap; · iexact H4
  ipureintro
  exact hR Y hY

theorem defs₀_row1 (t : Fin (cfg1 a).N) :
    defs₀ (F := F) .tc (cfg1 a).body ((cfg1 a).bodyArgs t ((cfg1 a).slots t)) = bodyAt1 a t := by
  unfold defs₀; rw [Defs.onTc_tc]

/-- The body obligation, the output's predicate following at every point from what the body may find. -/
theorem body_obligation1 (R : Pred1 a) (c : Dev nD) (hR : ∀ t Y, (rdat1 V a R c).Finds 4 t Y → R t (stored1 V a c t Y)) :
    (rdat1 V a R c).BodyObligation (defs₀ (F := F)) Variants.none () Set.univ :=
  BodyObligationRel.toRRel (dats1 V a c) (fun t => by
    rw [bigSep_W1, bigSep_W1, defs₀_row1]
    exact triple_restated (sound_body1 V a R c t (hR t)) rfl .rfl fun _ => .rfl)

end Cert.Kernel.Gen

end
-- ==== Proof.BitsRun.lean ====
/-
  THE PROGRAM'S RUN. The two kernel regions and the host arithmetic between them as one chain of segments: from any memory with zero
  counters, with the second region's tables admissible and its output block's predicate `R` kept by the body, every fair execution
  ends with the arguments as launched, every counter zero, and in the result an array that the second region's proof data allow.
-/
module

public import proofs.«01_k».proof.Proof.RegionRecord
public import proofs.«01_k».proof.Proof.BitsQuantRegion
public import proofs.«01_k».proof.Proof.BitsGmmRegion
public import proofs.«01_k».proof.Proof.Gen.Kernel.Regions
public import Idealize.ShloMosaic.Lib.Pipeline.FrameTail

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the first region leaves -/

/-- The first region's results, as the valuations between items ask for them: its windows' arrays after the last point. -/
def outsA : Outs (F := F) := fun _ r c => Pipeline.afterRegion (dats0 (V0 m) c) (V0 m c) (Proc.devRef .tc r)

theorem outsA_codes (c : Dev nD) : outsA m 1 main_v0_0 c = (dats0 (V0 m) c).arrAt 1 cfg0.N :=
  Pipeline.afterRegion_arr (dats0 (V0 m) c) (V0 m c) winFacts0.arr_inj 1

theorem outsA_scale (c : Dev nD) : outsA m 1 main_v0_1 c = (dats0 (V0 m) c).arrAt 2 cfg0.N :=
  Pipeline.afterRegion_arr (dats0 (V0 m) c) (V0 m c) winFacts0.arr_inj 2

theorem V1_codes (c : Dev nD) : V1 m (outsA m) c (Proc.devRef .tc main_v0_0) = outsA m 1 main_v0_0 c := by
  rw [V1, Function.update_of_ne (StableHlo.devRef_ne_of_ne (by decide)), Function.update_self]

theorem V1_scale (c : Dev nD) : V1 m (outsA m) c (Proc.devRef .tc main_v0_1) = outsA m 1 main_v0_1 c := by
  rw [V1, Function.update_self]

/-- The valuation at which the second region is entered. -/
abbrev VE (c : Dev nD) : Valuation τ sig (Elt F) := V12 m (outsA m) c

/-- The four tables as the second region finds them. -/
def tbl : pre1.Contents (Elt F) := fun k => VE m (0 : Dev nD) (Proc.devRef .tc (pre1.ref k))

theorem VE_pre (c : Dev nD) (k : Fin 4) : tbl m k = VE m c (Proc.devRef .tc (pre1.ref k)) := by
  obtain rfl : c = 0 := Subsingleton.elim _ _; rfl

variable (hO : ok1 (F := F) (tbl m))

/-- The tables, admissible. -/
abbrev adm1 : (pcfg1 (F := F)).Adm := ⟨tbl m, hO⟩

abbrev adms : (p : Fin 2) → (pcfgs (F := F) p).Adm
  | ⟨0, _⟩ => cfg0.toPCfg_adm
  | ⟨1, _⟩ => adm1 m hO

/-- The two regions' relational proof data. -/
def rdats (R : Pred1 (adm1 m hO)) : (p : Fin 2) → (c : Dev nD) → RDat τ (Elt F) Unit ℕ (UR sig nD τ) ℕ (Pipeline.pin (pcfgs (F := F)) (adms m hO) p) c
  | ⟨0, _⟩, c => (dats0 (V0 m) c).toR
  | ⟨1, _⟩, c => rdat1 (VE m) (adm1 m hO) R c

/-! ## The two records -/

/-- No index on any semaphore is claimed; no level is set. -/
abbrev L₀ : GSem nD τ sig → Finset Unit := fun _ => ∅
abbrev lv₀ : GSem nD τ sig → Unit → ℕ := fun _ _ => 0

def record0 (R : Pred1 (adm1 m hO)) :
    Pipeline.RDat.RegionSeg (pcfgs (F := F)) (adms m hO) (rdats m hO R) () defs₀ Variants.none L₀ lv₀ 0 :=
  Cert.Dgrad.regionRecord (pcfgs (F := F)) (adms m hO) (rdats m hO R) defs₀ Variants.none L₀ lv₀ 0 launch0
    (hbody := fun c => (body_obligation0 (V0 m) c).loose.toR)
    (howed := fun _ _ => rfl) (hrec := fun _ => rfl)
    (hshare := fun c => (dats0 (V0 m) c).share_full fun _ => rfl)
    (hin := fun c => by
      show _ ⊢ Pipeline.ΦA spec0 c
      unfold Pipeline.ΦA
      iintro ⟨Hp, -, Hs⟩
      isplitl [Hs]; · iexact Hs
      iexact Hp)
    (hout := fun c => by
      show Pipeline.ΦA spec0 c ⊢ _
      unfold Pipeline.ΦA
      iintro ⟨Hs, Hp⟩
      isplitl [Hp]; · iexact Hp
      isplitr
      · unfold Pipeline.prefHeld
        rw [show (Finset.univ : Finset (Fin (pcfgs (F := F) 0).pre.K)) = ∅ from rfl, bigSep_empty]
        iempintro
      iexact Hs)
    (W := V0 m) (Good := fun c W' => W' = V1 m (outsA m) c)
    (hA := fun c w => dats0_A (V0 m) c w) (hT := fun _ k => k.elim0)
    (hG := fun c G hG => ⟨_, rfl, by
        have h : ∀ w, G w = (dats0 (V0 m) c).arrAt w cfg0.N := fun w => (dats0 (V0 m) c).toR_arrAt w _ _ (hG w)
        intro w
        match w with
        | ⟨0, _⟩ =>
          refine ((h 0).trans (((dats0 (V0 m) c).arrAt_in 0 rfl _).trans (dats0_A (V0 m) c 0))).trans ?_
          exact (V1_of m (outsA m) c main_arg0 (by decide)).symm
        | ⟨1, _⟩ =>
          refine ((h 1).trans (outsA_codes m c).symm).trans ?_
          exact (V1_codes m c).symm
        | ⟨2, _⟩ =>
          refine ((h 2).trans (outsA_scale m c).symm).trans ?_
          exact (V1_scale m c).symm, by
        intro b hb
        have hne : ∀ w, b ≠ Proc.devRef .tc (Pipeline.arrRef spec0 w) := fun w h =>
          hb (Finset.mem_map.mpr ⟨_, Finset.mem_image.mpr ⟨w, Finset.mem_univ _, rfl⟩, h.symm⟩)
        exact (Function.update_of_ne (hne 2) _ _).trans (Function.update_of_ne (hne 1) _ _)⟩)

/-- After the second region: some array in the result that the proof data allow, every other buffer as it was. -/
abbrev Good1 (R : Pred1 (adm1 m hO)) (c : Dev nD) (W' : Valuation τ sig (Elt F)) : Prop :=
  ∃ X : Buf (Elt F) ((c : Thread nD τ).loc main_v60), (rdat1 (VE m) (adm1 m hO) R c).ArrAt 4 grid1.N X ∧ W' = Function.update (VE m c) main_v60 X

/-- Writing the result leaves every other buffer. -/
theorem VE_upd (c : Dev nD) (X : Buf (Elt F) ((c : Thread nD τ).loc main_v60)) (r : Ref sig .tc) (h : r ≠ main_v60) :
    Function.update (VE m c) (Proc.devRef .tc main_v60) X (Proc.devRef .tc r) = VE m c (Proc.devRef .tc r) :=
  Function.update_of_ne (StableHlo.devRef_ne_of_ne h) _ _

theorem VE_upd_self (c : Dev nD) (X : Buf (Elt F) ((c : Thread nD τ).loc main_v60)) :
    Function.update (VE m c) (Proc.devRef .tc main_v60) X (Proc.devRef .tc main_v60) = X :=
  Function.update_self _ _ _

theorem arrAt1_in (R : Pred1 (adm1 m hO)) (c : Dev nD) (w : Fin (cfg1 (adm1 m hO)).W) (hw : marked1 w = false) (hio : ((cfg1 (adm1 m hO)).win w).isOut = false)
    (G) (h : (rdat1 (VE m) (adm1 m hO) R c).ArrAt w grid1.N G) : G = VE m c (Proc.devRef .tc (Pipeline.arrRef spec1 w)) := by
  have h' : (dats1 (VE m) (adm1 m hO) c).toR.ArrAt w grid1.N G :=
    ((dats1 (VE m) (adm1 m hO) c).toR.override_arrAt (by simp only [hw]) _ _).mp h
  rw [(dats1 (VE m) (adm1 m hO) c).toR_arrAt w _ _ h', (dats1 (VE m) (adm1 m hO) c).arrAt_in w hio, dats1_A]

set_option maxHeartbeats 1000000 in
def record1 (R : Pred1 (adm1 m hO)) (hR : ∀ c t Y, (rdat1 (VE m) (adm1 m hO) R c).Finds 4 t Y → R t (stored1 (VE m) (adm1 m hO) c t Y)) :
    Pipeline.RDat.RegionSeg (pcfgs (F := F)) (adms m hO) (rdats m hO R) () defs₀ Variants.none L₀ lv₀ 1 :=
  Cert.Dgrad.regionRecord (pcfgs (F := F)) (adms m hO) (rdats m hO R) defs₀ Variants.none L₀ lv₀ 1 launch1
    (hbody := fun c => body_obligation1 (VE m) (adm1 m hO) R c (hR c))
    (howed := fun _ _ => rfl) (hrec := fun _ => rfl)
    (hshare := fun c => (dats1 (VE m) (adm1 m hO) c).share_full fun _ => rfl)
    (hin := fun c => .rfl) (hout := fun c => .rfl)
    (W := VE m) (Good := Good1 m hO R)
    (hA := fun c w => dats1_A (VE m) (adm1 m hO) c w) (hT := fun c k => VE_pre m c k)
    (hG := fun c G hG => ⟨_, ⟨G 4, hG 4, rfl⟩, by
        intro w
        match w with
        | ⟨0, _⟩ => exact (arrAt1_in m hO R c 0 rfl rfl _ (hG 0)).trans (VE_upd m c _ main_v0_0 (by decide)).symm
        | ⟨1, _⟩ => exact (arrAt1_in m hO R c 1 rfl rfl _ (hG 1)).trans (VE_upd m c _ main_v0_1 (by decide)).symm
        | ⟨2, _⟩ => exact (arrAt1_in m hO R c 2 rfl rfl _ (hG 2)).trans (VE_upd m c _ main_arg2 (by decide)).symm
        | ⟨3, _⟩ => exact (arrAt1_in m hO R c 3 rfl rfl _ (hG 3)).trans (VE_upd m c _ main_v59 (by decide)).symm
        | ⟨4, _⟩ => exact (VE_upd_self m c (G 4)).symm, by
        intro b hb
        exact Function.update_of_ne (fun h => hb (Finset.mem_map.mpr ⟨_, Finset.mem_image.mpr ⟨(4 : Fin 5), Finset.mem_univ _, rfl⟩, h.symm⟩)) _ _⟩)

/-! ## The run -/

/-- What rides along between items. -/
abbrev E₀ (_ : Fin 3) (c : Dev nD) : sProp 𝕄 := Cert.Dgrad.rest c

/-- @main's items as segments. -/
abbrev rsegs (R : Pred1 (adm1 m hO)) (hR : ∀ c t Y, (rdat1 (VE m) (adm1 m hO) R c).Finds 4 t Y → R t (stored1 (VE m) (adm1 m hO) c t Y)) (_ : Dev nD) : List (Pipeline.RDat.Seg (pcfgs (F := F)) (adms m hO) (rdats m hO R) () defs₀ Variants.none L₀ lv₀) :=
  [.region (record0 m hO R), .host (seg1 m (outsA m) Variants.none L₀ lv₀ E₀), .host (seg2 m (outsA m) Variants.none L₀ lv₀ E₀), .host (seg3 m (outsA m) Variants.none L₀ lv₀ E₀), .host (seg4 m (outsA m) Variants.none L₀ lv₀ E₀),
    .host (seg5 m (outsA m) Variants.none L₀ lv₀ E₀), .host (seg6 m (outsA m) Variants.none L₀ lv₀ E₀), .host (seg7 m (outsA m) Variants.none L₀ lv₀ E₀), .host (seg8 m (outsA m) Variants.none L₀ lv₀ E₀), .host (seg9 m (outsA m) Variants.none L₀ lv₀ E₀),
    .host (seg10 m (outsA m) Variants.none L₀ lv₀ E₀), .host (seg11 m (outsA m) Variants.none L₀ lv₀ E₀), .region (record1 m hO R hR)]

/-- An argument, after the second region. -/
theorem arg_of_good (R : Pred1 (adm1 m hO)) (c : Dev nD) {W' : Valuation τ sig (Elt F)} (h : Good1 m hO R c W') :
    W' main_arg0 = m ((c.tc : Thread nD τ).loc main_arg0) ∧ W' main_arg1 = m ((c.tc : Thread nD τ).loc main_arg1)
      ∧ W' main_arg2 = m ((c.tc : Thread nD τ).loc main_arg2) ∧ W' main_arg3 = m ((c.tc : Thread nD τ).loc main_arg3) := by
  obtain ⟨X, -, rfl⟩ := h
  refine ⟨(VE_upd m c _ _ (by decide)).trans ((V13_of m (outsA m) c main_arg0 (by decide)).symm.trans (V13_main_arg0 m (outsA m) c)),
    (VE_upd m c _ _ (by decide)).trans ((V13_of m (outsA m) c main_arg1 (by decide)).symm.trans (V13_main_arg1 m (outsA m) c)),
    (VE_upd m c _ _ (by decide)).trans ((V13_of m (outsA m) c main_arg2 (by decide)).symm.trans (V13_main_arg2 m (outsA m) c)),
    (VE_upd m c _ _ (by decide)).trans ((V13_of m (outsA m) c main_arg3 (by decide)).symm.trans (V13_main_arg3 m (outsA m) c))⟩

-- the kit's implicit arguments are found by unifying its conclusion with this one, which takes unfolding plain definitions in a
-- metavariable's type
set_option backward.isDefEq.respectTransparency.types false in
set_option maxHeartbeats 1000000 in
/-- THE RUN. -/
theorem run_main (R : Pred1 (adm1 m hO)) (hR : ∀ c t Y, (rdat1 (VE m) (adm1 m hO) R c).Finds 4 t Y → R t (stored1 (VE m) (adm1 m hO) c t Y)) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ (rdat1 (VE m) (adm1 m hO) R c).ArrAt 4 grid1.N (r.2.mem ((c.tc : Thread nD τ).loc main_v60)))
      ∧ r.2.sem = fun _ => 0) := by
  refine Pipeline.RDat.θ_run_regions_kit_dev_sems (pcfgs (F := F)) (adms m hO) (rdats m hO R) () (cellOf_inj (adms m hO)) emb₁ defs₀ Variants.none L₀ lv₀ m ρ main
    (rsegs m hO R hR)
    (fun c Q => by
      rewrite [main_chain c, Pipeline.RDat.Seg.run_eq_chain,
        show (rsegs m hO R hR c).map Pipeline.RDat.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          Prog.lift (.customCall (Pipeline.entry 1) ()) ] from rfl]
      dsimp (config := { failIfUnchanged := false }) only
      exact .rfl)
    (fun c => by simp only [rsegs, Pipeline.RDat.Seg.pipes_host, Pipeline.RDat.Seg.pipes_region, Pipeline.RDat.Seg.pipes_nil]; decide)
    0 (fun _ _ => rfl) (fun _ => iprop(emp))
    (initOf (Pipeline.cells (Pipeline.pin (pcfgs (F := F)) (adms m hO)) (cellOf_inj (adms m hO))) (Pipeline.launchToks (Pipeline.pin (pcfgs (F := F)) (adms m hO)) (cellOf_inj (adms m hO))))
    (hu₀ := ?_)
    (T₀ := fun c => iprop(StableHlo.held (c : Thread nD τ) (Pipeline.ucRefs τ sig) (V0 m c) ∗ Cert.Dgrad.rest c))
    (Tₙ := fun c => iprop(∃ W', ⌜Good1 m hO R c W'⌝ ∗ StableHlo.held (c : Thread nD τ) (Pipeline.ucRefs τ sig) W'))
    (hch := fun c => ⟨.rfl, ?_, .rfl, .rfl, .rfl, .rfl, .rfl, .rfl, .rfl, .rfl, .rfl, .rfl, .rfl, ?_⟩)
    (hinit := ?_)
    (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3))
      ∧ (rdat1 (VE m) (adm1 m hO) R c).ArrAt 4 grid1.N (s.mem ((c.tc : Thread nD τ).loc main_v60)))
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells (Pipeline.pin (pcfgs (F := F)) (adms m hO)) (cellOf_inj (adms m hO))) (Pipeline.launchToks (Pipeline.pin (pcfgs (F := F)) (adms m hO)) (cellOf_inj (adms m hO))))) from .rfl)
      iexact Hu
    iapply (show (BI.emp : sProp 𝕄) ⊢ bigSep Finset.univ (fun _ : Dev nD => (BI.emp : sProp 𝕄)) from by rw [BI.bigSep_emp_const])
    iempintro
  · show iprop(∃ W', ⌜W' = V1 m (outsA m) c⌝ ∗ StableHlo.held (c : Thread nD τ) (Pipeline.ucRefs τ sig) W' ∗ Cert.Dgrad.rest c)
      ⊢ iprop(StableHlo.held (c : Thread nD τ) (Pipeline.ucRefs τ sig) (V1 m (outsA m) c) ∗ Cert.Dgrad.rest c)
    iintro ⟨%W', %hW, H⟩
    subst hW
    iexact H
  · show iprop(∃ W', ⌜Good1 m hO R c W'⌝ ∗ StableHlo.held (c : Thread nD τ) (Pipeline.ucRefs τ sig) W' ∗ Cert.Dgrad.rest c)
      ⊢ iprop((∃ W', ⌜Good1 m hO R c W'⌝ ∗ StableHlo.held (c : Thread nD τ) (Pipeline.ucRefs τ sig) W') ∗ ∃ W, owes (c.tc : Thread nD τ) (0 : CellTallies nD τ sig Unit) W)
    iintro ⟨%W', %hW, Hh, -, HO⟩
    isplitl [Hh]
    · iexists W'; isplitr; · ipureintro; exact hW
      iexact Hh
    iexact HO
  · refine Pipeline.initEach L₀ lv₀ fun c => ?_
    rw [show unscopedBufs c (fun b => m ((c.tc : Thread nD τ).loc b)) = StableHlo.held (c.tc : Thread nD τ) (Pipeline.ucRefs τ sig) (V0 m c) from
      Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]; · iexists _; iexact Hp
    iexists _; iexact HO
  · unfold StableHlo.held
    iintro ⟨⟨%W', %hW, Hh⟩, HSI⟩
    ihave Hr := (pointsTo_read_all (Pipeline.ucRefs τ sig) (fun b => ((c : Thread nD τ).1, b)) W' s') $$ [Hh HSI]
    · isplitl [Hh] <;> iassumption
    icases Hr with ⟨%h, HSI⟩
    imodintro
    isplitr
    · ipureintro
      obtain ⟨h0, h1, h2, h3⟩ := arg_of_good m hO R c hW
      refine ⟨⟨(h (Proc.devRef .tc main_arg0) (Finset.mem_filter.mpr ⟨StableHlo.devRef_mem_tcRefs main_arg0, by decide⟩)).trans h0,
        (h (Proc.devRef .tc main_arg1) (Finset.mem_filter.mpr ⟨StableHlo.devRef_mem_tcRefs main_arg1, by decide⟩)).trans h1,
        (h (Proc.devRef .tc main_arg2) (Finset.mem_filter.mpr ⟨StableHlo.devRef_mem_tcRefs main_arg2, by decide⟩)).trans h2,
        (h (Proc.devRef .tc main_arg3) (Finset.mem_filter.mpr ⟨StableHlo.devRef_mem_tcRefs main_arg3, by decide⟩)).trans h3⟩, ?_⟩
      obtain ⟨X, hX, rfl⟩ := hW
      have hv := (h (Proc.devRef .tc main_v60) (Finset.mem_filter.mpr ⟨StableHlo.devRef_mem_tcRefs main_v60, by decide⟩)).trans (Function.update_self _ _ _)
      exact hv ▸ hX
    · iexact HSI

/-- THE FRAME, from admissible tables. -/
theorem frame (hO : ok1 (F := F) (tbl m)) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩)
    (run_main m ρ hO (fun _ _ => True) fun _ _ _ _ => trivial)

end Cert.Kernel.Gen

end
-- ==== Proof.BitsWords.lean ====
/-
  THE TABLES AS THE SECOND REGION READS THEM: each word of the four tables as a number, and that every block they name lies in its array.
-/
module

public import proofs.«01_k».proof.Proof.BitsTables
public import proofs.«01_k».proof.Proof.BitsRun

@[expose] public section

set_option maxRecDepth 16384

noncomputable section

namespace Cert.Kernel.Gen

open Idealize.ShloMosaic Idealize.ShloMosaic.TcCoe Idealize.ShloMosaic.Tactic
open Cert.Dgrad (S nv idx grp tile)

variable {F : FTy → Type} [FloatOps F]

theorem off1_val (i : grid1.Coords) : k1_off1 i 0 = (i 1).val :=
  (by decide : ∀ j : Fin 20, (Scalar.indexCast (BitVec.ofNat 32 j.val)).toNat = j.val) (i 1)

/-- The one element of the unit rectangle at a visit is that visit's. -/
theorem emb_off1 (i : grid1.Coords) :
    ((Rect.unit (s := S20) (k1_off1 i) S1.size (k1_off1_inb i)).emb (Shape.Idx.first (numel1_S1.symm ▸ Nat.one_pos)) : S20.Idx) = ValueIdx.ix1 (i 1 : Fin 20) := by
  funext a
  obtain rfl : a = 0 := Subsingleton.elim _ _
  refine Fin.ext ?_
  show k1_off1 i 0 + 1 * (Shape.Idx.first (s := S1) _ 0).val = (i 1).val
  rw [off1_val]
  have : (Shape.Idx.first (s := S1) (numel1_S1.symm ▸ Nat.one_pos) 0).val < 1 := (Shape.Idx.first (s := S1) _ 0).isLt
  omega

section
variable (m : (ℓ : Loc nD τ sig) → Buf (Elt F) ℓ) (hg : S (sizes m 0) 13 = 4096)

include hg in
theorem word_tile (i : grid1.Coords) : word1 (tbl m) 0 i = BitVec.ofNat 32 (tile (sizes m 0) (i 1).val) :=
  (congrArg (tbl m 0) (emb_off1 i)).trans (holds_v44 m (outsA m) 0 hg (i 1 : Fin 20))

include hg in
theorem word_grp (i : grid1.Coords) : word1 (tbl m) 1 i = BitVec.ofNat 32 (grp (sizes m 0) (i 1).val) :=
  (congrArg (tbl m 1) (emb_off1 i)).trans (holds_v20_end m (outsA m) 0 hg (i 1 : Fin 20))

include hg in
theorem word_lo (i : grid1.Coords) : word1 (tbl m) 2 i = BitVec.ofNat 32 (S (sizes m 0) (grp (sizes m 0) (i 1).val)) :=
  (congrArg (tbl m 2) (emb_off1 i)).trans (holds_v51 m (outsA m) 0 hg (i 1 : Fin 20))

include hg in
theorem word_hi (i : grid1.Coords) : word1 (tbl m) 3 i = BitVec.ofNat 32 (S (sizes m 0) (grp (sizes m 0) (i 1).val + 1)) :=
  (congrArg (tbl m 3) (emb_off1 i)).trans (holds_v58 m (outsA m) 0 hg (i 1 : Fin 20))

include hg in
theorem word_tile_lt (i : grid1.Coords) : (word1 (tbl m) 0 i).toNat < 8 := by
  rw [word_tile m hg, BitVec.toNat_ofNat]
  exact lt_of_le_of_lt (Nat.mod_le _ _) (Cert.Dgrad.tile_lt hg _)

include hg in
theorem word_grp_lt (i : grid1.Coords) : (word1 (tbl m) 1 i).toNat < 13 := by
  rw [word_grp m hg, BitVec.toNat_ofNat]
  exact lt_of_le_of_lt (Nat.mod_le _ _) (Cert.Dgrad.grp_lt hg _)

end

/-! ## Blocks inside their arrays -/

theorem ok_codes : ∀ t : Fin 8, ∃ h : (∀ a, ((![t.val, 0] : Fin 2 → ℕ) a + 1) * S512x7168.size a ≤ S4096x7168.size a),
    EltTy.bits .fp8e5m2 = 32 ∨ (Rect.block (s := S4096x7168) S512x7168.size (![t.val, 0] : Fin 2 → ℕ) h).WholeWords (EltTy.packing .fp8e5m2) := by decide +kernel
theorem ok_scale : ∀ t : Fin 8, ∃ h : (∀ a, ((![t.val, 0] : Fin 2 → ℕ) a + 1) * S512x128.size a ≤ S4096x128.size a),
    EltTy.bits .f32 = 32 ∨ (Rect.block (s := S4096x128) S512x128.size (![t.val, 0] : Fin 2 → ℕ) h).WholeWords (EltTy.packing .f32) := by decide +kernel
theorem ok_w : ∀ (e : Fin 13) (n : Fin 4), ∃ h : (∀ a, ((![e.val, (BitVec.ofNat 32 n.val).toNat, 0] : Fin 3 → ℕ) a + 1) * S1x512x7168.size a ≤ S13x2048x7168.size a),
    EltTy.bits .fp8e4m3 = 32 ∨ (Rect.block (s := S13x2048x7168) S1x512x7168.size (![e.val, (BitVec.ofNat 32 n.val).toNat, 0] : Fin 3 → ℕ) h).WholeWords (EltTy.packing .fp8e4m3) := by decide +kernel
theorem ok_ws : ∀ (e : Fin 13) (n : Fin 4), ∃ h : (∀ a, ((![e.val, 0, (BitVec.ofNat 32 n.val).toNat] : Fin 3 → ℕ) a + 1) * S1x1x512.size a ≤ S13x1x2048.size a),
    EltTy.bits .f32 = 32 ∨ (Rect.block (s := S13x1x2048) S1x1x512.size (![e.val, 0, (BitVec.ofNat 32 n.val).toNat] : Fin 3 → ℕ) h).WholeWords (EltTy.packing .f32) := by decide +kernel
theorem ok_out : ∀ (t : Fin 8) (n : Fin 4), ∃ h : (∀ a, ((![t.val, (BitVec.ofNat 32 n.val).toNat] : Fin 2 → ℕ) a + 1) * S512x512.size a ≤ S4096x2048.size a),
    EltTy.bits .bf16 = 32 ∨ (Rect.block (s := S4096x2048) S512x512.size (![t.val, (BitVec.ofNat 32 n.val).toNat] : Fin 2 → ℕ) h).WholeWords (EltTy.packing .bf16) := by decide +kernel

theorem ok_of_words (pf : pre1.Contents (Elt F)) (ht : ∀ i, (word1 pf 0 i).toNat < 8) (he : ∀ i, (word1 pf 1 i).toNat < 13) : ok1 pf :=
  ⟨fun i => ok_codes ⟨_, ht i⟩, fun i => ok_scale ⟨_, ht i⟩, fun i => ok_w ⟨_, he i⟩ (i 0), fun i => ok_ws ⟨_, he i⟩ (i 0), fun i => ok_out ⟨_, ht i⟩ (i 0)⟩

theorem ok_tbl (m : (ℓ : Loc nD τ sig) → Buf (Elt F) ℓ) (hg : S (sizes m 0) 13 = 4096) : ok1 (tbl m) :=
  ok_of_words _ (word_tile_lt m hg) (word_grp_lt m hg)

end Cert.Kernel.Gen

end
-- ==== Proof.lean ====
/-
  THE CLAIM. The kernel's frames from its run (Run.lean, BitsRun.lean), whose tables' words Tables.lean reads under the precondition; the equality
  of results from the kernel's value (KernelValue.lean) and the reference's (RefValue.lean), which are the same sum.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_groups_split_rows
public import proofs.«01_k».proof.Proof.Gen.Pre_finite_dy_and_split
public import proofs.«01_k».proof.Proof.Precond
public import proofs.«01_k».proof.Proof.PrecondFinite
public import proofs.«01_k».proof.Proof.KernelValue
public import proofs.«01_k».proof.Proof.RefValue
public import proofs.«01_k».proof.Proof.Words
public import proofs.«01_k».proof.Proof.BitsWords
public import Idealize.ShloMosaic.Adequacy
public import Idealize.ShloMosaic.Init

@[expose] public section

noncomputable section

namespace Cert.Proof

open Idealize.ShloMosaic Idealize.SL.Sem Cert.Kernel

/-- The kernel's frame at the words. -/
theorem frame_bits [Cert.Kernel.Facts] [Cert.Pre_groups_split_rows.Facts] : Cert.quiescent_Kernel := fun m g h =>
  Cert.Kernel.Gen.frame m g (Cert.Kernel.Gen.ok_tbl m (Cert.Dgrad.split_sum _ _ _ _ (h 0)))

/-- The same at the ideal values. -/
theorem frame_ideal [Cert.KernelIdeal.Facts] [Cert.Pre_groups_split_rows.Facts] : Cert.quiescent_KernelIdeal := fun m g h =>
  Cert.KernelIdeal.Gen.frame m g (Cert.KernelIdeal.Gen.ok_tbl m (Cert.Dgrad.split_sum _ _ _ _ (h 0)))

/-- The ideal frame under the second precondition. -/
theorem frame_ideal_finite [Cert.KernelIdeal.Facts] [Cert.Pre_finite_dy_and_split.Facts] : Cert.quiescent_KernelIdeal_pre_finite_dy_and_split := fun m g h =>
  Cert.KernelIdeal.Gen.frame m g (Cert.KernelIdeal.Gen.ok_tbl m (Cert.Dgrad.finite_split_sum _ _ _ _ (h 0)).1)

/-- The kernel's result is the reference's. -/
theorem results_equal [Cert.KernelIdeal.Facts] [Cert.ReferenceIdeal.Facts] [Cert.Pre_finite_dy_and_split.Facts] : Cert.algebraic_KernelIdeal_ReferenceIdeal_pre_finite_dy_and_split := by
  intro m g m' g' h hm
  have hg := (Cert.Dgrad.finite_split_sum _ _ _ _ (h 0)).1
  have hv := Cert.Dgrad.finite_le _ _ _ _ (h 0)
  have hK := Cert.KernelIdeal.Gen.run_value m g hg hv
  have e (c : Dev Cert.KernelIdeal.nD) : Cert.ReferenceIdeal.Gen.argDyR m' c = Cert.KernelIdeal.Gen.argDy m c
      ∧ Cert.ReferenceIdeal.Gen.argGsR m' c = m ((c.tc : Thread Cert.KernelIdeal.nD Cert.KernelIdeal.τ).loc Cert.KernelIdeal.main_arg1)
      ∧ Cert.ReferenceIdeal.Gen.argWR m' c = Cert.KernelIdeal.Gen.argW m c ∧ Cert.ReferenceIdeal.Gen.argWsR m' c = Cert.KernelIdeal.Gen.argWs m c := hm c
  have hgR : ∀ c, Cert.Dgrad.S (Cert.Dgrad.sizesOf (Cert.ReferenceIdeal.Gen.argGsR m' c)) 13 = 4096 := fun c => by
    obtain rfl : c = 0 := Subsingleton.elim _ _
    rw [(e 0).2.1]; exact hg
  have hR := Cert.ReferenceIdeal.Gen.run_value m' g' hgR fun c => by
    obtain rfl : c = 0 := Subsingleton.elim _ _
    rw [(e 0).1]; exact hv
  refine ⟨fun c i => Cert.KernelIdeal.Gen.dgrad (Cert.KernelIdeal.Gen.argDy m c) (Cert.KernelIdeal.Gen.argW m c) (Cert.KernelIdeal.Gen.argWs m c) (Cert.KernelIdeal.Gen.expert (Cert.KernelIdeal.Gen.gz m) hg (i 0)) (i 0) (i 1),
    (θ_run _ _ _).mono (fun r q => q.1) hK, (θ_run _ _ _).mono (fun r q c => ⟨(q c).1.trans ?_, (q c).2⟩) hR⟩
  obtain rfl : c = 0 := Subsingleton.elim _ _
  obtain ⟨e0, e1, e2, e3⟩ := e 0
  funext i
  have eE : Cert.ReferenceIdeal.Gen.expertR (Cert.ReferenceIdeal.Gen.argGsR m' 0) (hgR 0) (i 0) = Cert.KernelIdeal.Gen.expert (Cert.KernelIdeal.Gen.gz m) hg (i 0) := by
    refine Fin.ext ?_
    show Cert.Dgrad.egroup (Cert.Dgrad.sizesOf (Cert.ReferenceIdeal.Gen.argGsR m' 0)) _ = Cert.Dgrad.egroup (Cert.KernelIdeal.Gen.gz m) _
    rw [e1]
    rfl
  rw [eE, e0, e2, e3]
  rfl

theorem claim : Cert.Claim := ⟨Cert.Kernel.Gen.facts, Cert.KernelIdeal.Gen.facts, Cert.ReferenceIdeal.Gen.facts, Cert.Pre_groups_split_rows.Gen.facts,
  Cert.Pre_finite_dy_and_split.Gen.facts, frame_bits, frame_ideal, frame_ideal_finite, fun m g _ => Cert.ReferenceIdeal.Gen.frame m g, fun m g _ => Cert.ReferenceIdeal.Gen.frame m g, trivial, results_equal⟩

end Cert.Proof

end
